-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨5, ![1, 1, 1, 2048, 1024]⟩ ⟨5, ![2, 2, 2, 2048, 1024]⟩ (Layout.meshBlock [2, 2, 2] ![[0], [1], [2], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1x1x2048x1024 : Shape := ⟨5, ![1, 1, 1, 2048, 1024]⟩
abbrev S2048x1024 : Shape := ⟨2, ![2048, 1024]⟩
abbrev S66x88x1024 : Shape := ⟨3, ![66, 88, 1024]⟩
abbrev S42 : Shape := ⟨1, ![42]⟩
abbrev S_ : Shape := ⟨0, ![]⟩
abbrev S88x1024 : Shape := ⟨2, ![88, 1024]⟩
abbrev S1x88x1024 : Shape := ⟨3, ![1, 88, 1024]⟩
abbrev S1 : Shape := ⟨1, ![1]⟩
abbrev S80x1024 : Shape := ⟨2, ![80, 1024]⟩
abbrev S1x80x1024 : Shape := ⟨3, ![1, 80, 1024]⟩

abbrev nBuf : Space → Nat
  | .hbm => 3
  | .vmem => 3
  | .smem => 0
  | _ => 0

abbrev bufTy : (tb : Table) → Fin (tcTables nBuf tb) → BufTy
  | .hbm, ⟨0, _⟩ => ⟨S1x1x1x2048x1024, .f32⟩
  | .hbm, ⟨1, _⟩ => ⟨S2048x1024, .f32⟩
  | .hbm, ⟨2, _⟩ => ⟨S2048x1024, .f32⟩
  | .local _ .vmem, ⟨0, _⟩ => ⟨S2048x1024, .f32⟩
  | .local _ .vmem, ⟨1, _⟩ => ⟨S2048x1024, .f32⟩
  | .local _ .vmem, ⟨2, _⟩ => ⟨S66x88x1024, .bf16⟩
  | _, _ => ⟨S1x1x1x2048x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 86 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | _ => false

abbrev sig : RefSig :=
  (ofTc nBuf bufTy 1 86 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev main_v2 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_7 : BitVec 32 := 4#32
  let v13 : BitVec 32 := Scalar.muli v9 c4_i32_7
  let v14 : BitVec 32 := Scalar.addi c0_i32 v13
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_8 : BitVec 32 := 2#32
  let v15 : BitVec 32 := Scalar.muli v5 c2_i32_8
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_9 : BitVec 32 := 1#32
  let v17 : BitVec 32 := Scalar.muli v8 c1_i32_9
  let v18 : BitVec 32 := Scalar.addi v16 v17
  v18.toNat
def k0_dev2 (d0 : Dev nD) : Nat :=
  let c0_i32_12 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_11 : BitVec 32 := 4#32
  let v19 : BitVec 32 := Scalar.muli v2 c4_i32_11
  let v20 : BitVec 32 := Scalar.addi c0_i32_12 v19
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_13 : BitVec 32 := 2#32
  let v21 : BitVec 32 := Scalar.muli v10 c2_i32_13
  let v22 : BitVec 32 := Scalar.addi v20 v21
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_14 : BitVec 32 := 1#32
  let v23 : BitVec 32 := Scalar.muli v8 c1_i32_14
  let v24 : BitVec 32 := Scalar.addi v22 v23
  v24.toNat
def k0_dev3 (d0 : Dev nD) : Nat :=
  let c0_i32_17 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_16 : BitVec 32 := 4#32
  let v25 : BitVec 32 := Scalar.muli v2 c4_i32_16
  let v26 : BitVec 32 := Scalar.addi c0_i32_17 v25
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_18 : BitVec 32 := 2#32
  let v27 : BitVec 32 := Scalar.muli v5 c2_i32_18
  let v28 : BitVec 32 := Scalar.addi v26 v27
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_19 : BitVec 32 := 1#32
  let v29 : BitVec 32 := Scalar.muli v11 c1_i32_19
  let v30 : BitVec 32 := Scalar.addi v28 v29
  v30.toNat
def k0_off1 (d0 : Dev nD) (c0_i32_23 : BitVec 32) (c4_i32 : BitVec 32) (c2_i32_1 : BitVec 32) (c1_i32 : BitVec 32) : Fin 2 → Nat :=
  let c1_i32_21 : BitVec 32 := 1#32
  let v0 : BitVec 32 := Dev.word d0
  let v1 : BitVec 32 := Scalar.divsi v0 c4_i32
  let c2_i32 : BitVec 32 := 2#32
  let v2 : BitVec 32 := Scalar.remsi v1 c2_i32
  let v37 : BitVec 32 := Scalar.subi c1_i32_21 v2
  let c352_i32_22 : BitVec 32 := 352#32
  let v38 : BitVec 32 := Scalar.muli v37 c352_i32_22
  let v39 : BitVec 32 := Scalar.addi c0_i32_23 v38
  let c1_i32_28 : BitVec 32 := 1#32
  let v3 : BitVec 32 := Dev.word d0
  let v4 : BitVec 32 := Scalar.divsi v3 c2_i32_1
  let c2_i32_0 : BitVec 32 := 2#32
  let v5 : BitVec 32 := Scalar.remsi v4 c2_i32_0
  let v46 : BitVec 32 := Scalar.subi c1_i32_28 v5
  let c176_i32_29 : BitVec 32 := 176#32
  let v47 : BitVec 32 := Scalar.muli v46 c176_i32_29
  let c1_i32_30 : BitVec 32 := 1#32
  let v6 : BitVec 32 := Dev.word d0
  let v7 : BitVec 32 := Scalar.divsi v6 c1_i32
  let c2_i32_2 : BitVec 32 := 2#32
  let v8 : BitVec 32 := Scalar.remsi v7 c2_i32_2
  let v48 : BitVec 32 := Scalar.subi c1_i32_30 v8
  let c88_i32_31 : BitVec 32 := 88#32
  let v49 : BitVec 32 := Scalar.muli v48 c88_i32_31
  let v50 : BitVec 32 := Scalar.addi v47 v49
  let v133 : BitVec 32 := Scalar.addi v39 v50
  let v134 : Index := Scalar.indexCast v133
  let c0 : Index := 0#32
  ![v134.toNat, 0]
def k0_off1_at (r : Fin 2) : BitVec 32 × BitVec 32 × BitVec 32 × BitVec 32 :=
  if r.val < 1 then
    (0#32, 4#32, 2#32, 1#32)
  else
    (704#32, 2#32, 1#32, 4#32)
def k0_dev4 (d0 : Dev nD) : Nat :=
  let c0_i32_97 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_96 : BitVec 32 := 4#32
  let v141 : BitVec 32 := Scalar.muli v9 c4_i32_96
  let v142 : BitVec 32 := Scalar.addi c0_i32_97 v141
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_98 : BitVec 32 := 2#32
  let v143 : BitVec 32 := Scalar.muli v5 c2_i32_98
  let v144 : BitVec 32 := Scalar.addi v142 v143
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_99 : BitVec 32 := 1#32
  let v145 : BitVec 32 := Scalar.muli v8 c1_i32_99
  let v146 : BitVec 32 := Scalar.addi v144 v145
  v146.toNat
def k0_off2 (d0 : Dev nD) (c0_i32_23 : BitVec 32) (c4_i32 : BitVec 32) (c2_i32_1 : BitVec 32) (c1_i32 : BitVec 32) : Fin 2 → Nat :=
  let c1_i32_21 : BitVec 32 := 1#32
  let v0 : BitVec 32 := Dev.word d0
  let v1 : BitVec 32 := Scalar.divsi v0 c4_i32
  let c2_i32 : BitVec 32 := 2#32
  let v2 : BitVec 32 := Scalar.remsi v1 c2_i32
  let v37 : BitVec 32 := Scalar.subi c1_i32_21 v2
  let c352_i32_22 : BitVec 32 := 352#32
  let v38 : BitVec 32 := Scalar.muli v37 c352_i32_22
  let v39 : BitVec 32 := Scalar.addi c0_i32_23 v38
  let c1_i32_32 : BitVec 32 := 1#32
  let v3 : BitVec 32 := Dev.word d0
  let v4 : BitVec 32 := Scalar.divsi v3 c2_i32_1
  let c2_i32_0 : BitVec 32 := 2#32
  let v5 : BitVec 32 := Scalar.remsi v4 c2_i32_0
  let v51 : BitVec 32 := Scalar.subi c1_i32_32 v5
  let c176_i32_33 : BitVec 32 := 176#32
  let v52 : BitVec 32 := Scalar.muli v51 c176_i32_33
  let v6 : BitVec 32 := Dev.word d0
  let v7 : BitVec 32 := Scalar.divsi v6 c1_i32
  let c2_i32_2 : BitVec 32 := 2#32
  let v8 : BitVec 32 := Scalar.remsi v7 c2_i32_2
  let c88_i32_34 : BitVec 32 := 88#32
  let v53 : BitVec 32 := Scalar.muli v8 c88_i32_34
  let v54 : BitVec 32 := Scalar.addi v52 v53
  let v155 : BitVec 32 := Scalar.addi v39 v54
  let v156 : Index := Scalar.indexCast v155
  let c0_104 : Index := 0#32
  ![v156.toNat, 0]
def k0_off2_at (r : Fin 2) : BitVec 32 × BitVec 32 × BitVec 32 × BitVec 32 :=
  if r.val < 1 then
    (0#32, 4#32, 2#32, 1#32)
  else
    (704#32, 2#32, 1#32, 4#32)
def k0_dev5 (d0 : Dev nD) : Nat :=
  let c0_i32_111 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_110 : BitVec 32 := 4#32
  let v163 : BitVec 32 := Scalar.muli v9 c4_i32_110
  let v164 : BitVec 32 := Scalar.addi c0_i32_111 v163
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_112 : BitVec 32 := 2#32
  let v165 : BitVec 32 := Scalar.muli v5 c2_i32_112
  let v166 : BitVec 32 := Scalar.addi v164 v165
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_113 : BitVec 32 := 1#32
  let v167 : BitVec 32 := Scalar.muli v8 c1_i32_113
  let v168 : BitVec 32 := Scalar.addi v166 v167
  v168.toNat
def k0_dev6 (d0 : Dev nD) : Nat :=
  let c0_i32_123 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_122 : BitVec 32 := 4#32
  let v185 : BitVec 32 := Scalar.muli v2 c4_i32_122
  let v186 : BitVec 32 := Scalar.addi c0_i32_123 v185
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_124 : BitVec 32 := 2#32
  let v187 : BitVec 32 := Scalar.muli v10 c2_i32_124
  let v188 : BitVec 32 := Scalar.addi v186 v187
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_125 : BitVec 32 := 1#32
  let v189 : BitVec 32 := Scalar.muli v8 c1_i32_125
  let v190 : BitVec 32 := Scalar.addi v188 v189
  v190.toNat
def k0_dev7 (d0 : Dev nD) : Nat :=
  let c0_i32_135 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_134 : BitVec 32 := 4#32
  let v207 : BitVec 32 := Scalar.muli v2 c4_i32_134
  let v208 : BitVec 32 := Scalar.addi c0_i32_135 v207
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_136 : BitVec 32 := 2#32
  let v209 : BitVec 32 := Scalar.muli v10 c2_i32_136
  let v210 : BitVec 32 := Scalar.addi v208 v209
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_137 : BitVec 32 := 1#32
  let v211 : BitVec 32 := Scalar.muli v8 c1_i32_137
  let v212 : BitVec 32 := Scalar.addi v210 v211
  v212.toNat
def k0_off3 (d0 : Dev nD) : Fin 2 → Nat :=
  let c1408_i32_70 : BitVec 32 := 1408#32
  let c1_i32_68 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v105 : BitVec 32 := Scalar.subi c1_i32_68 v8
  let c320_i32_69 : BitVec 32 := 320#32
  let v106 : BitVec 32 := Scalar.muli v105 c320_i32_69
  let v107 : BitVec 32 := Scalar.addi c1408_i32_70 v106
  let c1_i32_75 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v114 : BitVec 32 := Scalar.subi c1_i32_75 v2
  let c160_i32_76 : BitVec 32 := 160#32
  let v115 : BitVec 32 := Scalar.muli v114 c160_i32_76
  let c1_i32_77 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v116 : BitVec 32 := Scalar.subi c1_i32_77 v5
  let c80_i32_78 : BitVec 32 := 80#32
  let v117 : BitVec 32 := Scalar.muli v116 c80_i32_78
  let v118 : BitVec 32 := Scalar.addi v115 v117
  let v221 : BitVec 32 := Scalar.addi v107 v118
  let v222 : Index := Scalar.indexCast v221
  let c0_142 : Index := 0#32
  ![v222.toNat, 0]
def k0_dev8 (d0 : Dev nD) : Nat :=
  let c0_i32_147 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_146 : BitVec 32 := 4#32
  let v229 : BitVec 32 := Scalar.muli v2 c4_i32_146
  let v230 : BitVec 32 := Scalar.addi c0_i32_147 v229
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_148 : BitVec 32 := 2#32
  let v231 : BitVec 32 := Scalar.muli v5 c2_i32_148
  let v232 : BitVec 32 := Scalar.addi v230 v231
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_149 : BitVec 32 := 1#32
  let v233 : BitVec 32 := Scalar.muli v11 c1_i32_149
  let v234 : BitVec 32 := Scalar.addi v232 v233
  v234.toNat
def k0_off4 (d0 : Dev nD) : Fin 2 → Nat :=
  let c1408_i32_70 : BitVec 32 := 1408#32
  let c1_i32_68 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v105 : BitVec 32 := Scalar.subi c1_i32_68 v8
  let c320_i32_69 : BitVec 32 := 320#32
  let v106 : BitVec 32 := Scalar.muli v105 c320_i32_69
  let v107 : BitVec 32 := Scalar.addi c1408_i32_70 v106
  let c1_i32_79 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v119 : BitVec 32 := Scalar.subi c1_i32_79 v2
  let c160_i32_80 : BitVec 32 := 160#32
  let v120 : BitVec 32 := Scalar.muli v119 c160_i32_80
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c80_i32_81 : BitVec 32 := 80#32
  let v121 : BitVec 32 := Scalar.muli v5 c80_i32_81
  let v122 : BitVec 32 := Scalar.addi v120 v121
  let v243 : BitVec 32 := Scalar.addi v107 v122
  let v244 : Index := Scalar.indexCast v243
  let c0_154 : Index := 0#32
  ![v244.toNat, 0]
def k0_dev9 (d0 : Dev nD) : Nat :=
  let c0_i32_159 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_158 : BitVec 32 := 4#32
  let v251 : BitVec 32 := Scalar.muli v2 c4_i32_158
  let v252 : BitVec 32 := Scalar.addi c0_i32_159 v251
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_160 : BitVec 32 := 2#32
  let v253 : BitVec 32 := Scalar.muli v5 c2_i32_160
  let v254 : BitVec 32 := Scalar.addi v252 v253
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_161 : BitVec 32 := 1#32
  let v255 : BitVec 32 := Scalar.muli v11 c1_i32_161
  let v256 : BitVec 32 := Scalar.addi v254 v255
  v256.toNat
def k0_off5 (d0 : Dev nD) (c0_i32_20 : BitVec 32) (c4_i32 : BitVec 32) (c2_i32_1 : BitVec 32) (c1_i32 : BitVec 32) : Fin 2 → Nat :=
  let v0 : BitVec 32 := Dev.word d0
  let v1 : BitVec 32 := Scalar.divsi v0 c4_i32
  let c2_i32 : BitVec 32 := 2#32
  let v2 : BitVec 32 := Scalar.remsi v1 c2_i32
  let c352_i32 : BitVec 32 := 352#32
  let v31 : BitVec 32 := Scalar.muli v2 c352_i32
  let v32 : BitVec 32 := Scalar.addi c0_i32_20 v31
  let c1_i32_24 : BitVec 32 := 1#32
  let v3 : BitVec 32 := Dev.word d0
  let v4 : BitVec 32 := Scalar.divsi v3 c2_i32_1
  let c2_i32_0 : BitVec 32 := 2#32
  let v5 : BitVec 32 := Scalar.remsi v4 c2_i32_0
  let v40 : BitVec 32 := Scalar.subi c1_i32_24 v5
  let c176_i32_25 : BitVec 32 := 176#32
  let v41 : BitVec 32 := Scalar.muli v40 c176_i32_25
  let v42 : BitVec 32 := Scalar.addi v32 v41
  let c1_i32_40 : BitVec 32 := 1#32
  let v6 : BitVec 32 := Dev.word d0
  let v7 : BitVec 32 := Scalar.divsi v6 c1_i32
  let c2_i32_2 : BitVec 32 := 2#32
  let v8 : BitVec 32 := Scalar.remsi v7 c2_i32_2
  let v62 : BitVec 32 := Scalar.subi c1_i32_40 v8
  let c88_i32_41 : BitVec 32 := 88#32
  let v63 : BitVec 32 := Scalar.muli v62 c88_i32_41
  let v277 : BitVec 32 := Scalar.addi v42 v63
  let v278 : Index := Scalar.indexCast v277
  let c0_178 : Index := 0#32
  ![v278.toNat, 0]
def k0_off5_at (r : Fin 2) : BitVec 32 × BitVec 32 × BitVec 32 × BitVec 32 :=
  if r.val < 1 then
    (0#32, 4#32, 2#32, 1#32)
  else
    (704#32, 2#32, 1#32, 4#32)
def k0_dev10 (d0 : Dev nD) : Nat :=
  let c0_i32_187 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_186 : BitVec 32 := 4#32
  let v289 : BitVec 32 := Scalar.muli v2 c4_i32_186
  let v290 : BitVec 32 := Scalar.addi c0_i32_187 v289
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_188 : BitVec 32 := 2#32
  let v291 : BitVec 32 := Scalar.muli v10 c2_i32_188
  let v292 : BitVec 32 := Scalar.addi v290 v291
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_189 : BitVec 32 := 1#32
  let v293 : BitVec 32 := Scalar.muli v8 c1_i32_189
  let v294 : BitVec 32 := Scalar.addi v292 v293
  v294.toNat
def k0_off6 (d0 : Dev nD) (c0_i32_23 : BitVec 32) (c4_i32 : BitVec 32) (c2_i32_1 : BitVec 32) (c1_i32 : BitVec 32) : Fin 2 → Nat :=
  let c1_i32_21 : BitVec 32 := 1#32
  let v0 : BitVec 32 := Dev.word d0
  let v1 : BitVec 32 := Scalar.divsi v0 c4_i32
  let c2_i32 : BitVec 32 := 2#32
  let v2 : BitVec 32 := Scalar.remsi v1 c2_i32
  let v37 : BitVec 32 := Scalar.subi c1_i32_21 v2
  let c352_i32_22 : BitVec 32 := 352#32
  let v38 : BitVec 32 := Scalar.muli v37 c352_i32_22
  let v39 : BitVec 32 := Scalar.addi c0_i32_23 v38
  let v3 : BitVec 32 := Dev.word d0
  let v4 : BitVec 32 := Scalar.divsi v3 c2_i32_1
  let c2_i32_0 : BitVec 32 := 2#32
  let v5 : BitVec 32 := Scalar.remsi v4 c2_i32_0
  let c176_i32_35 : BitVec 32 := 176#32
  let v55 : BitVec 32 := Scalar.muli v5 c176_i32_35
  let c1_i32_36 : BitVec 32 := 1#32
  let v6 : BitVec 32 := Dev.word d0
  let v7 : BitVec 32 := Scalar.divsi v6 c1_i32
  let c2_i32_2 : BitVec 32 := 2#32
  let v8 : BitVec 32 := Scalar.remsi v7 c2_i32_2
  let v56 : BitVec 32 := Scalar.subi c1_i32_36 v8
  let c88_i32_37 : BitVec 32 := 88#32
  let v57 : BitVec 32 := Scalar.muli v56 c88_i32_37
  let v58 : BitVec 32 := Scalar.addi v55 v57
  let v303 : BitVec 32 := Scalar.addi v39 v58
  let v304 : Index := Scalar.indexCast v303
  let c0_194 : Index := 0#32
  ![v304.toNat, 0]
def k0_off6_at (r : Fin 2) : BitVec 32 × BitVec 32 × BitVec 32 × BitVec 32 :=
  if r.val < 1 then
    (0#32, 4#32, 2#32, 1#32)
  else
    (704#32, 2#32, 1#32, 4#32)
def k0_dev11 (d0 : Dev nD) : Nat :=
  let c0_i32_201 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_200 : BitVec 32 := 4#32
  let v311 : BitVec 32 := Scalar.muli v9 c4_i32_200
  let v312 : BitVec 32 := Scalar.addi c0_i32_201 v311
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_202 : BitVec 32 := 2#32
  let v313 : BitVec 32 := Scalar.muli v5 c2_i32_202
  let v314 : BitVec 32 := Scalar.addi v312 v313
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_203 : BitVec 32 := 1#32
  let v315 : BitVec 32 := Scalar.muli v8 c1_i32_203
  let v316 : BitVec 32 := Scalar.addi v314 v315
  v316.toNat
def k0_dev12 (d0 : Dev nD) : Nat :=
  let c0_i32_227 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_226 : BitVec 32 := 4#32
  let v349 : BitVec 32 := Scalar.muli v2 c4_i32_226
  let v350 : BitVec 32 := Scalar.addi c0_i32_227 v349
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_228 : BitVec 32 := 2#32
  let v351 : BitVec 32 := Scalar.muli v5 c2_i32_228
  let v352 : BitVec 32 := Scalar.addi v350 v351
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_229 : BitVec 32 := 1#32
  let v353 : BitVec 32 := Scalar.muli v11 c1_i32_229
  let v354 : BitVec 32 := Scalar.addi v352 v353
  v354.toNat
def k0_dev13 (d0 : Dev nD) : Nat :=
  let c0_i32_239 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_238 : BitVec 32 := 4#32
  let v371 : BitVec 32 := Scalar.muli v2 c4_i32_238
  let v372 : BitVec 32 := Scalar.addi c0_i32_239 v371
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_240 : BitVec 32 := 2#32
  let v373 : BitVec 32 := Scalar.muli v10 c2_i32_240
  let v374 : BitVec 32 := Scalar.addi v372 v373
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_241 : BitVec 32 := 1#32
  let v375 : BitVec 32 := Scalar.muli v8 c1_i32_241
  let v376 : BitVec 32 := Scalar.addi v374 v375
  v376.toNat
def k0_off7 (d0 : Dev nD) : Fin 2 → Nat :=
  let c1408_i32 : BitVec 32 := 1408#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c320_i32 : BitVec 32 := 320#32
  let v99 : BitVec 32 := Scalar.muli v8 c320_i32
  let v100 : BitVec 32 := Scalar.addi c1408_i32 v99
  let c1_i32_71 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v108 : BitVec 32 := Scalar.subi c1_i32_71 v2
  let c160_i32_72 : BitVec 32 := 160#32
  let v109 : BitVec 32 := Scalar.muli v108 c160_i32_72
  let v110 : BitVec 32 := Scalar.addi v100 v109
  let c1_i32_87 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v130 : BitVec 32 := Scalar.subi c1_i32_87 v5
  let c80_i32_88 : BitVec 32 := 80#32
  let v131 : BitVec 32 := Scalar.muli v130 c80_i32_88
  let v397 : BitVec 32 := Scalar.addi v110 v131
  let v398 : Index := Scalar.indexCast v397
  let c0_258 : Index := 0#32
  ![v398.toNat, 0]
def k0_dev14 (d0 : Dev nD) : Nat :=
  let c0_i32_266 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_265 : BitVec 32 := 4#32
  let v409 : BitVec 32 := Scalar.muli v9 c4_i32_265
  let v410 : BitVec 32 := Scalar.addi c0_i32_266 v409
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_267 : BitVec 32 := 2#32
  let v411 : BitVec 32 := Scalar.muli v5 c2_i32_267
  let v412 : BitVec 32 := Scalar.addi v410 v411
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_268 : BitVec 32 := 1#32
  let v413 : BitVec 32 := Scalar.muli v8 c1_i32_268
  let v414 : BitVec 32 := Scalar.addi v412 v413
  v414.toNat
def k0_off8 (d0 : Dev nD) : Fin 2 → Nat :=
  let c1408_i32_70 : BitVec 32 := 1408#32
  let c1_i32_68 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v105 : BitVec 32 := Scalar.subi c1_i32_68 v8
  let c320_i32_69 : BitVec 32 := 320#32
  let v106 : BitVec 32 := Scalar.muli v105 c320_i32_69
  let v107 : BitVec 32 := Scalar.addi c1408_i32_70 v106
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c160_i32_82 : BitVec 32 := 160#32
  let v123 : BitVec 32 := Scalar.muli v2 c160_i32_82
  let c1_i32_83 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v124 : BitVec 32 := Scalar.subi c1_i32_83 v5
  let c80_i32_84 : BitVec 32 := 80#32
  let v125 : BitVec 32 := Scalar.muli v124 c80_i32_84
  let v126 : BitVec 32 := Scalar.addi v123 v125
  let v423 : BitVec 32 := Scalar.addi v107 v126
  let v424 : Index := Scalar.indexCast v423
  let c0_273 : Index := 0#32
  ![v424.toNat, 0]
def k0_dev15 (d0 : Dev nD) : Nat :=
  let c0_i32_279 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_278 : BitVec 32 := 4#32
  let v431 : BitVec 32 := Scalar.muli v2 c4_i32_278
  let v432 : BitVec 32 := Scalar.addi c0_i32_279 v431
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_280 : BitVec 32 := 2#32
  let v433 : BitVec 32 := Scalar.muli v5 c2_i32_280
  let v434 : BitVec 32 := Scalar.addi v432 v433
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_281 : BitVec 32 := 1#32
  let v435 : BitVec 32 := Scalar.muli v11 c1_i32_281
  let v436 : BitVec 32 := Scalar.addi v434 v435
  v436.toNat
def k0_off9 (d0 : Dev nD) (c0_i32_20 : BitVec 32) (c4_i32 : BitVec 32) (c2_i32_1 : BitVec 32) (c1_i32 : BitVec 32) : Fin 2 → Nat :=
  let v0 : BitVec 32 := Dev.word d0
  let v1 : BitVec 32 := Scalar.divsi v0 c4_i32
  let c2_i32 : BitVec 32 := 2#32
  let v2 : BitVec 32 := Scalar.remsi v1 c2_i32
  let c352_i32 : BitVec 32 := 352#32
  let v31 : BitVec 32 := Scalar.muli v2 c352_i32
  let v32 : BitVec 32 := Scalar.addi c0_i32_20 v31
  let c1_i32_24 : BitVec 32 := 1#32
  let v3 : BitVec 32 := Dev.word d0
  let v4 : BitVec 32 := Scalar.divsi v3 c2_i32_1
  let c2_i32_0 : BitVec 32 := 2#32
  let v5 : BitVec 32 := Scalar.remsi v4 c2_i32_0
  let v40 : BitVec 32 := Scalar.subi c1_i32_24 v5
  let c176_i32_25 : BitVec 32 := 176#32
  let v41 : BitVec 32 := Scalar.muli v40 c176_i32_25
  let v42 : BitVec 32 := Scalar.addi v32 v41
  let v6 : BitVec 32 := Dev.word d0
  let v7 : BitVec 32 := Scalar.divsi v6 c1_i32
  let c2_i32_2 : BitVec 32 := 2#32
  let v8 : BitVec 32 := Scalar.remsi v7 c2_i32_2
  let c88_i32_42 : BitVec 32 := 88#32
  let v64 : BitVec 32 := Scalar.muli v8 c88_i32_42
  let v457 : BitVec 32 := Scalar.addi v42 v64
  let v458 : Index := Scalar.indexCast v457
  let c0_298 : Index := 0#32
  ![v458.toNat, 0]
def k0_off9_at (r : Fin 2) : BitVec 32 × BitVec 32 × BitVec 32 × BitVec 32 :=
  if r.val < 1 then
    (0#32, 4#32, 2#32, 1#32)
  else
    (704#32, 2#32, 1#32, 4#32)
def k0_dev16 (d0 : Dev nD) : Nat :=
  let c0_i32_306 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_305 : BitVec 32 := 4#32
  let v469 : BitVec 32 := Scalar.muli v2 c4_i32_305
  let v470 : BitVec 32 := Scalar.addi c0_i32_306 v469
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_307 : BitVec 32 := 2#32
  let v471 : BitVec 32 := Scalar.muli v10 c2_i32_307
  let v472 : BitVec 32 := Scalar.addi v470 v471
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_308 : BitVec 32 := 1#32
  let v473 : BitVec 32 := Scalar.muli v8 c1_i32_308
  let v474 : BitVec 32 := Scalar.addi v472 v473
  v474.toNat
def k0_off10 (d0 : Dev nD) (c0_i32_23 : BitVec 32) (c4_i32 : BitVec 32) (c2_i32_1 : BitVec 32) (c1_i32 : BitVec 32) : Fin 2 → Nat :=
  let c1_i32_21 : BitVec 32 := 1#32
  let v0 : BitVec 32 := Dev.word d0
  let v1 : BitVec 32 := Scalar.divsi v0 c4_i32
  let c2_i32 : BitVec 32 := 2#32
  let v2 : BitVec 32 := Scalar.remsi v1 c2_i32
  let v37 : BitVec 32 := Scalar.subi c1_i32_21 v2
  let c352_i32_22 : BitVec 32 := 352#32
  let v38 : BitVec 32 := Scalar.muli v37 c352_i32_22
  let v39 : BitVec 32 := Scalar.addi c0_i32_23 v38
  let v3 : BitVec 32 := Dev.word d0
  let v4 : BitVec 32 := Scalar.divsi v3 c2_i32_1
  let c2_i32_0 : BitVec 32 := 2#32
  let v5 : BitVec 32 := Scalar.remsi v4 c2_i32_0
  let c176_i32_38 : BitVec 32 := 176#32
  let v59 : BitVec 32 := Scalar.muli v5 c176_i32_38
  let v6 : BitVec 32 := Dev.word d0
  let v7 : BitVec 32 := Scalar.divsi v6 c1_i32
  let c2_i32_2 : BitVec 32 := 2#32
  let v8 : BitVec 32 := Scalar.remsi v7 c2_i32_2
  let c88_i32_39 : BitVec 32 := 88#32
  let v60 : BitVec 32 := Scalar.muli v8 c88_i32_39
  let v61 : BitVec 32 := Scalar.addi v59 v60
  let v483 : BitVec 32 := Scalar.addi v39 v61
  let v484 : Index := Scalar.indexCast v483
  let c0_313 : Index := 0#32
  ![v484.toNat, 0]
def k0_off10_at (r : Fin 2) : BitVec 32 × BitVec 32 × BitVec 32 × BitVec 32 :=
  if r.val < 1 then
    (0#32, 4#32, 2#32, 1#32)
  else
    (704#32, 2#32, 1#32, 4#32)
def k0_dev17 (d0 : Dev nD) : Nat :=
  let c0_i32_320 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_319 : BitVec 32 := 4#32
  let v491 : BitVec 32 := Scalar.muli v9 c4_i32_319
  let v492 : BitVec 32 := Scalar.addi c0_i32_320 v491
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_321 : BitVec 32 := 2#32
  let v493 : BitVec 32 := Scalar.muli v5 c2_i32_321
  let v494 : BitVec 32 := Scalar.addi v492 v493
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_322 : BitVec 32 := 1#32
  let v495 : BitVec 32 := Scalar.muli v8 c1_i32_322
  let v496 : BitVec 32 := Scalar.addi v494 v495
  v496.toNat
def k0_dev18 (d0 : Dev nD) : Nat :=
  let c0_i32_346 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_345 : BitVec 32 := 4#32
  let v529 : BitVec 32 := Scalar.muli v2 c4_i32_345
  let v530 : BitVec 32 := Scalar.addi c0_i32_346 v529
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_347 : BitVec 32 := 2#32
  let v531 : BitVec 32 := Scalar.muli v5 c2_i32_347
  let v532 : BitVec 32 := Scalar.addi v530 v531
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_348 : BitVec 32 := 1#32
  let v533 : BitVec 32 := Scalar.muli v11 c1_i32_348
  let v534 : BitVec 32 := Scalar.addi v532 v533
  v534.toNat
def k0_dev19 (d0 : Dev nD) : Nat :=
  let c0_i32_358 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_357 : BitVec 32 := 4#32
  let v551 : BitVec 32 := Scalar.muli v2 c4_i32_357
  let v552 : BitVec 32 := Scalar.addi c0_i32_358 v551
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_359 : BitVec 32 := 2#32
  let v553 : BitVec 32 := Scalar.muli v10 c2_i32_359
  let v554 : BitVec 32 := Scalar.addi v552 v553
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_360 : BitVec 32 := 1#32
  let v555 : BitVec 32 := Scalar.muli v8 c1_i32_360
  let v556 : BitVec 32 := Scalar.addi v554 v555
  v556.toNat
def k0_off11 (d0 : Dev nD) : Fin 2 → Nat :=
  let c1408_i32 : BitVec 32 := 1408#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c320_i32 : BitVec 32 := 320#32
  let v99 : BitVec 32 := Scalar.muli v8 c320_i32
  let v100 : BitVec 32 := Scalar.addi c1408_i32 v99
  let c1_i32_71 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v108 : BitVec 32 := Scalar.subi c1_i32_71 v2
  let c160_i32_72 : BitVec 32 := 160#32
  let v109 : BitVec 32 := Scalar.muli v108 c160_i32_72
  let v110 : BitVec 32 := Scalar.addi v100 v109
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c80_i32_89 : BitVec 32 := 80#32
  let v132 : BitVec 32 := Scalar.muli v5 c80_i32_89
  let v577 : BitVec 32 := Scalar.addi v110 v132
  let v578 : Index := Scalar.indexCast v577
  let c0_377 : Index := 0#32
  ![v578.toNat, 0]
def k0_dev20 (d0 : Dev nD) : Nat :=
  let c0_i32_385 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_384 : BitVec 32 := 4#32
  let v589 : BitVec 32 := Scalar.muli v9 c4_i32_384
  let v590 : BitVec 32 := Scalar.addi c0_i32_385 v589
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_386 : BitVec 32 := 2#32
  let v591 : BitVec 32 := Scalar.muli v5 c2_i32_386
  let v592 : BitVec 32 := Scalar.addi v590 v591
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_387 : BitVec 32 := 1#32
  let v593 : BitVec 32 := Scalar.muli v8 c1_i32_387
  let v594 : BitVec 32 := Scalar.addi v592 v593
  v594.toNat
def k0_off12 (d0 : Dev nD) : Fin 2 → Nat :=
  let c1408_i32_70 : BitVec 32 := 1408#32
  let c1_i32_68 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v105 : BitVec 32 := Scalar.subi c1_i32_68 v8
  let c320_i32_69 : BitVec 32 := 320#32
  let v106 : BitVec 32 := Scalar.muli v105 c320_i32_69
  let v107 : BitVec 32 := Scalar.addi c1408_i32_70 v106
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c160_i32_85 : BitVec 32 := 160#32
  let v127 : BitVec 32 := Scalar.muli v2 c160_i32_85
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c80_i32_86 : BitVec 32 := 80#32
  let v128 : BitVec 32 := Scalar.muli v5 c80_i32_86
  let v129 : BitVec 32 := Scalar.addi v127 v128
  let v603 : BitVec 32 := Scalar.addi v107 v129
  let v604 : Index := Scalar.indexCast v603
  let c0_392 : Index := 0#32
  ![v604.toNat, 0]
def k0_dev21 (d0 : Dev nD) : Nat :=
  let c0_i32_398 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_397 : BitVec 32 := 4#32
  let v611 : BitVec 32 := Scalar.muli v2 c4_i32_397
  let v612 : BitVec 32 := Scalar.addi c0_i32_398 v611
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_399 : BitVec 32 := 2#32
  let v613 : BitVec 32 := Scalar.muli v5 c2_i32_399
  let v614 : BitVec 32 := Scalar.addi v612 v613
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_400 : BitVec 32 := 1#32
  let v615 : BitVec 32 := Scalar.muli v11 c1_i32_400
  let v616 : BitVec 32 := Scalar.addi v614 v615
  v616.toNat
def k0_off13 (d0 : Dev nD) (c0_i32_20 : BitVec 32) (c4_i32 : BitVec 32) (c2_i32_1 : BitVec 32) (c1_i32 : BitVec 32) : Fin 2 → Nat :=
  let v0 : BitVec 32 := Dev.word d0
  let v1 : BitVec 32 := Scalar.divsi v0 c4_i32
  let c2_i32 : BitVec 32 := 2#32
  let v2 : BitVec 32 := Scalar.remsi v1 c2_i32
  let c352_i32 : BitVec 32 := 352#32
  let v31 : BitVec 32 := Scalar.muli v2 c352_i32
  let v32 : BitVec 32 := Scalar.addi c0_i32_20 v31
  let v3 : BitVec 32 := Dev.word d0
  let v4 : BitVec 32 := Scalar.divsi v3 c2_i32_1
  let c2_i32_0 : BitVec 32 := 2#32
  let v5 : BitVec 32 := Scalar.remsi v4 c2_i32_0
  let c176_i32 : BitVec 32 := 176#32
  let v33 : BitVec 32 := Scalar.muli v5 c176_i32
  let v34 : BitVec 32 := Scalar.addi v32 v33
  let c1_i32_26 : BitVec 32 := 1#32
  let v6 : BitVec 32 := Dev.word d0
  let v7 : BitVec 32 := Scalar.divsi v6 c1_i32
  let c2_i32_2 : BitVec 32 := 2#32
  let v8 : BitVec 32 := Scalar.remsi v7 c2_i32_2
  let v43 : BitVec 32 := Scalar.subi c1_i32_26 v8
  let c88_i32_27 : BitVec 32 := 88#32
  let v44 : BitVec 32 := Scalar.muli v43 c88_i32_27
  let v45 : BitVec 32 := Scalar.addi v34 v44
  let v649 : Index := Scalar.indexCast v45
  let c0_429 : Index := 0#32
  ![v649.toNat, 0]
def k0_off13_at (r : Fin 2) : BitVec 32 × BitVec 32 × BitVec 32 × BitVec 32 :=
  if r.val < 1 then
    (0#32, 4#32, 2#32, 1#32)
  else
    (704#32, 2#32, 1#32, 4#32)
def k0_dev22 (d0 : Dev nD) : Nat :=
  let c0_i32_440 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_439 : BitVec 32 := 4#32
  let v664 : BitVec 32 := Scalar.muli v2 c4_i32_439
  let v665 : BitVec 32 := Scalar.addi c0_i32_440 v664
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_441 : BitVec 32 := 2#32
  let v666 : BitVec 32 := Scalar.muli v5 c2_i32_441
  let v667 : BitVec 32 := Scalar.addi v665 v666
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_442 : BitVec 32 := 1#32
  let v668 : BitVec 32 := Scalar.muli v11 c1_i32_442
  let v669 : BitVec 32 := Scalar.addi v667 v668
  v669.toNat
def k0_dev23 (d0 : Dev nD) : Nat :=
  let c0_i32_481 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_480 : BitVec 32 := 4#32
  let v717 : BitVec 32 := Scalar.muli v9 c4_i32_480
  let v718 : BitVec 32 := Scalar.addi c0_i32_481 v717
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_482 : BitVec 32 := 2#32
  let v719 : BitVec 32 := Scalar.muli v5 c2_i32_482
  let v720 : BitVec 32 := Scalar.addi v718 v719
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_483 : BitVec 32 := 1#32
  let v721 : BitVec 32 := Scalar.muli v8 c1_i32_483
  let v722 : BitVec 32 := Scalar.addi v720 v721
  v722.toNat
def k0_off14 (d0 : Dev nD) : Fin 2 → Nat :=
  let c1408_i32 : BitVec 32 := 1408#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c320_i32 : BitVec 32 := 320#32
  let v99 : BitVec 32 := Scalar.muli v8 c320_i32
  let v100 : BitVec 32 := Scalar.addi c1408_i32 v99
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c160_i32 : BitVec 32 := 160#32
  let v101 : BitVec 32 := Scalar.muli v2 c160_i32
  let v102 : BitVec 32 := Scalar.addi v100 v101
  let c1_i32_73 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v111 : BitVec 32 := Scalar.subi c1_i32_73 v5
  let c80_i32_74 : BitVec 32 := 80#32
  let v112 : BitVec 32 := Scalar.muli v111 c80_i32_74
  let v113 : BitVec 32 := Scalar.addi v102 v112
  let v755 : Index := Scalar.indexCast v113
  let c0_512 : Index := 0#32
  ![v755.toNat, 0]
def k0_dev24 (d0 : Dev nD) : Nat :=
  let c0_i32_522 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_521 : BitVec 32 := 4#32
  let v770 : BitVec 32 := Scalar.muli v2 c4_i32_521
  let v771 : BitVec 32 := Scalar.addi c0_i32_522 v770
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_523 : BitVec 32 := 2#32
  let v772 : BitVec 32 := Scalar.muli v10 c2_i32_523
  let v773 : BitVec 32 := Scalar.addi v771 v772
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_524 : BitVec 32 := 1#32
  let v774 : BitVec 32 := Scalar.muli v8 c1_i32_524
  let v775 : BitVec 32 := Scalar.addi v773 v774
  v775.toNat
def k0_off15 (d0 : Dev nD) (c0_i32_20 : BitVec 32) (c4_i32 : BitVec 32) (c2_i32_1 : BitVec 32) (c1_i32 : BitVec 32) : Fin 2 → Nat :=
  let v0 : BitVec 32 := Dev.word d0
  let v1 : BitVec 32 := Scalar.divsi v0 c4_i32
  let c2_i32 : BitVec 32 := 2#32
  let v2 : BitVec 32 := Scalar.remsi v1 c2_i32
  let c352_i32 : BitVec 32 := 352#32
  let v31 : BitVec 32 := Scalar.muli v2 c352_i32
  let v32 : BitVec 32 := Scalar.addi c0_i32_20 v31
  let v3 : BitVec 32 := Dev.word d0
  let v4 : BitVec 32 := Scalar.divsi v3 c2_i32_1
  let c2_i32_0 : BitVec 32 := 2#32
  let v5 : BitVec 32 := Scalar.remsi v4 c2_i32_0
  let c176_i32 : BitVec 32 := 176#32
  let v33 : BitVec 32 := Scalar.muli v5 c176_i32
  let v34 : BitVec 32 := Scalar.addi v32 v33
  let v6 : BitVec 32 := Dev.word d0
  let v7 : BitVec 32 := Scalar.divsi v6 c1_i32
  let c2_i32_2 : BitVec 32 := 2#32
  let v8 : BitVec 32 := Scalar.remsi v7 c2_i32_2
  let c88_i32 : BitVec 32 := 88#32
  let v35 : BitVec 32 := Scalar.muli v8 c88_i32
  let v36 : BitVec 32 := Scalar.addi v34 v35
  let v820 : Index := Scalar.indexCast v36
  let c0_565 : Index := 0#32
  ![v820.toNat, 0]
def k0_off15_at (r : Fin 2) : BitVec 32 × BitVec 32 × BitVec 32 × BitVec 32 :=
  if r.val < 1 then
    (0#32, 4#32, 2#32, 1#32)
  else
    (704#32, 2#32, 1#32, 4#32)
def k0_dev25 (d0 : Dev nD) : Nat :=
  let c0_i32_578 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_577 : BitVec 32 := 4#32
  let v839 : BitVec 32 := Scalar.muli v2 c4_i32_577
  let v840 : BitVec 32 := Scalar.addi c0_i32_578 v839
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_579 : BitVec 32 := 2#32
  let v841 : BitVec 32 := Scalar.muli v5 c2_i32_579
  let v842 : BitVec 32 := Scalar.addi v840 v841
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_580 : BitVec 32 := 1#32
  let v843 : BitVec 32 := Scalar.muli v11 c1_i32_580
  let v844 : BitVec 32 := Scalar.addi v842 v843
  v844.toNat
def k0_dev26 (d0 : Dev nD) : Nat :=
  let c0_i32_590 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_589 : BitVec 32 := 4#32
  let v853 : BitVec 32 := Scalar.muli v2 c4_i32_589
  let v854 : BitVec 32 := Scalar.addi c0_i32_590 v853
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_591 : BitVec 32 := 2#32
  let v855 : BitVec 32 := Scalar.muli v10 c2_i32_591
  let v856 : BitVec 32 := Scalar.addi v854 v855
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_592 : BitVec 32 := 1#32
  let v857 : BitVec 32 := Scalar.muli v8 c1_i32_592
  let v858 : BitVec 32 := Scalar.addi v856 v857
  v858.toNat
def k0_dev27 (d0 : Dev nD) : Nat :=
  let c0_i32_602 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_601 : BitVec 32 := 4#32
  let v867 : BitVec 32 := Scalar.muli v9 c4_i32_601
  let v868 : BitVec 32 := Scalar.addi c0_i32_602 v867
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_603 : BitVec 32 := 2#32
  let v869 : BitVec 32 := Scalar.muli v5 c2_i32_603
  let v870 : BitVec 32 := Scalar.addi v868 v869
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_604 : BitVec 32 := 1#32
  let v871 : BitVec 32 := Scalar.muli v8 c1_i32_604
  let v872 : BitVec 32 := Scalar.addi v870 v871
  v872.toNat
def k0_dev28 (d0 : Dev nD) : Nat :=
  let c0_i32_661 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_660 : BitVec 32 := 4#32
  let v941 : BitVec 32 := Scalar.muli v9 c4_i32_660
  let v942 : BitVec 32 := Scalar.addi c0_i32_661 v941
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_662 : BitVec 32 := 2#32
  let v943 : BitVec 32 := Scalar.muli v5 c2_i32_662
  let v944 : BitVec 32 := Scalar.addi v942 v943
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_663 : BitVec 32 := 1#32
  let v945 : BitVec 32 := Scalar.muli v8 c1_i32_663
  let v946 : BitVec 32 := Scalar.addi v944 v945
  v946.toNat
def k0_dev29 (d0 : Dev nD) : Nat :=
  let c0_i32_672 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_671 : BitVec 32 := 4#32
  let v955 : BitVec 32 := Scalar.muli v2 c4_i32_671
  let v956 : BitVec 32 := Scalar.addi c0_i32_672 v955
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_673 : BitVec 32 := 2#32
  let v957 : BitVec 32 := Scalar.muli v5 c2_i32_673
  let v958 : BitVec 32 := Scalar.addi v956 v957
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_674 : BitVec 32 := 1#32
  let v959 : BitVec 32 := Scalar.muli v11 c1_i32_674
  let v960 : BitVec 32 := Scalar.addi v958 v959
  v960.toNat
def k0_dev30 (d0 : Dev nD) : Nat :=
  let c0_i32_683 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_682 : BitVec 32 := 4#32
  let v969 : BitVec 32 := Scalar.muli v2 c4_i32_682
  let v970 : BitVec 32 := Scalar.addi c0_i32_683 v969
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_684 : BitVec 32 := 2#32
  let v971 : BitVec 32 := Scalar.muli v10 c2_i32_684
  let v972 : BitVec 32 := Scalar.addi v970 v971
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_685 : BitVec 32 := 1#32
  let v973 : BitVec 32 := Scalar.muli v8 c1_i32_685
  let v974 : BitVec 32 := Scalar.addi v972 v973
  v974.toNat
def k0_off16 (d0 : Dev nD) : Fin 2 → Nat :=
  let c1408_i32 : BitVec 32 := 1408#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c320_i32 : BitVec 32 := 320#32
  let v99 : BitVec 32 := Scalar.muli v8 c320_i32
  let v100 : BitVec 32 := Scalar.addi c1408_i32 v99
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c160_i32 : BitVec 32 := 160#32
  let v101 : BitVec 32 := Scalar.muli v2 c160_i32
  let v102 : BitVec 32 := Scalar.addi v100 v101
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c80_i32 : BitVec 32 := 80#32
  let v103 : BitVec 32 := Scalar.muli v5 c80_i32
  let v104 : BitVec 32 := Scalar.addi v102 v103
  let v1024 : Index := Scalar.indexCast v104
  let c0_730 : Index := 0#32
  ![v1024.toNat, 0]
def k0_dev31 (d0 : Dev nD) : Nat :=
  let c0_i32_742 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_741 : BitVec 32 := 4#32
  let v1043 : BitVec 32 := Scalar.muli v2 c4_i32_741
  let v1044 : BitVec 32 := Scalar.addi c0_i32_742 v1043
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_743 : BitVec 32 := 2#32
  let v1045 : BitVec 32 := Scalar.muli v10 c2_i32_743
  let v1046 : BitVec 32 := Scalar.addi v1044 v1045
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_744 : BitVec 32 := 1#32
  let v1047 : BitVec 32 := Scalar.muli v8 c1_i32_744
  let v1048 : BitVec 32 := Scalar.addi v1046 v1047
  v1048.toNat
def k0_dev32 (d0 : Dev nD) : Nat :=
  let c0_i32_753 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_752 : BitVec 32 := 4#32
  let v1057 : BitVec 32 := Scalar.muli v9 c4_i32_752
  let v1058 : BitVec 32 := Scalar.addi c0_i32_753 v1057
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_754 : BitVec 32 := 2#32
  let v1059 : BitVec 32 := Scalar.muli v5 c2_i32_754
  let v1060 : BitVec 32 := Scalar.addi v1058 v1059
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_755 : BitVec 32 := 1#32
  let v1061 : BitVec 32 := Scalar.muli v8 c1_i32_755
  let v1062 : BitVec 32 := Scalar.addi v1060 v1061
  v1062.toNat
def k0_dev33 (d0 : Dev nD) : Nat :=
  let c0_i32_764 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_763 : BitVec 32 := 4#32
  let v1071 : BitVec 32 := Scalar.muli v2 c4_i32_763
  let v1072 : BitVec 32 := Scalar.addi c0_i32_764 v1071
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_765 : BitVec 32 := 2#32
  let v1073 : BitVec 32 := Scalar.muli v5 c2_i32_765
  let v1074 : BitVec 32 := Scalar.addi v1072 v1073
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_766 : BitVec 32 := 1#32
  let v1075 : BitVec 32 := Scalar.muli v11 c1_i32_766
  let v1076 : BitVec 32 := Scalar.addi v1074 v1075
  v1076.toNat
def k0_dev34 (d0 : Dev nD) : Nat :=
  let c0_i32_792 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_791 : BitVec 32 := 4#32
  let v1102 : BitVec 32 := Scalar.muli v2 c4_i32_791
  let v1103 : BitVec 32 := Scalar.addi c0_i32_792 v1102
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_793 : BitVec 32 := 2#32
  let v1104 : BitVec 32 := Scalar.muli v10 c2_i32_793
  let v1105 : BitVec 32 := Scalar.addi v1103 v1104
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_794 : BitVec 32 := 1#32
  let v1106 : BitVec 32 := Scalar.muli v8 c1_i32_794
  let v1107 : BitVec 32 := Scalar.addi v1105 v1106
  v1107.toNat
def k0_dev35 (d0 : Dev nD) : Nat :=
  let c0_i32_804 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_803 : BitVec 32 := 4#32
  let v1116 : BitVec 32 := Scalar.muli v9 c4_i32_803
  let v1117 : BitVec 32 := Scalar.addi c0_i32_804 v1116
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_805 : BitVec 32 := 2#32
  let v1118 : BitVec 32 := Scalar.muli v5 c2_i32_805
  let v1119 : BitVec 32 := Scalar.addi v1117 v1118
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_806 : BitVec 32 := 1#32
  let v1120 : BitVec 32 := Scalar.muli v8 c1_i32_806
  let v1121 : BitVec 32 := Scalar.addi v1119 v1120
  v1121.toNat
def k0_dev36 (d0 : Dev nD) : Nat :=
  let c0_i32_835 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_834 : BitVec 32 := 4#32
  let v1154 : BitVec 32 := Scalar.muli v2 c4_i32_834
  let v1155 : BitVec 32 := Scalar.addi c0_i32_835 v1154
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_836 : BitVec 32 := 2#32
  let v1156 : BitVec 32 := Scalar.muli v5 c2_i32_836
  let v1157 : BitVec 32 := Scalar.addi v1155 v1156
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_837 : BitVec 32 := 1#32
  let v1158 : BitVec 32 := Scalar.muli v11 c1_i32_837
  let v1159 : BitVec 32 := Scalar.addi v1157 v1158
  v1159.toNat
def k0_dev37 (d0 : Dev nD) : Nat :=
  let c0_i32_846 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_845 : BitVec 32 := 4#32
  let v1168 : BitVec 32 := Scalar.muli v2 c4_i32_845
  let v1169 : BitVec 32 := Scalar.addi c0_i32_846 v1168
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_847 : BitVec 32 := 2#32
  let v1170 : BitVec 32 := Scalar.muli v10 c2_i32_847
  let v1171 : BitVec 32 := Scalar.addi v1169 v1170
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_848 : BitVec 32 := 1#32
  let v1172 : BitVec 32 := Scalar.muli v8 c1_i32_848
  let v1173 : BitVec 32 := Scalar.addi v1171 v1172
  v1173.toNat
def k0_dev38 (d0 : Dev nD) : Nat :=
  let c0_i32_877 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_876 : BitVec 32 := 4#32
  let v1206 : BitVec 32 := Scalar.muli v9 c4_i32_876
  let v1207 : BitVec 32 := Scalar.addi c0_i32_877 v1206
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_878 : BitVec 32 := 2#32
  let v1208 : BitVec 32 := Scalar.muli v5 c2_i32_878
  let v1209 : BitVec 32 := Scalar.addi v1207 v1208
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_879 : BitVec 32 := 1#32
  let v1210 : BitVec 32 := Scalar.muli v8 c1_i32_879
  let v1211 : BitVec 32 := Scalar.addi v1209 v1210
  v1211.toNat
def k0_dev39 (d0 : Dev nD) : Nat :=
  let c0_i32_888 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_887 : BitVec 32 := 4#32
  let v1220 : BitVec 32 := Scalar.muli v2 c4_i32_887
  let v1221 : BitVec 32 := Scalar.addi c0_i32_888 v1220
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_889 : BitVec 32 := 2#32
  let v1222 : BitVec 32 := Scalar.muli v5 c2_i32_889
  let v1223 : BitVec 32 := Scalar.addi v1221 v1222
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_890 : BitVec 32 := 1#32
  let v1224 : BitVec 32 := Scalar.muli v11 c1_i32_890
  let v1225 : BitVec 32 := Scalar.addi v1223 v1224
  v1225.toNat
def k0_dev40 (d0 : Dev nD) : Nat :=
  let c0_i32_920 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_919 : BitVec 32 := 4#32
  let v1258 : BitVec 32 := Scalar.muli v9 c4_i32_919
  let v1259 : BitVec 32 := Scalar.addi c0_i32_920 v1258
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_921 : BitVec 32 := 2#32
  let v1260 : BitVec 32 := Scalar.muli v5 c2_i32_921
  let v1261 : BitVec 32 := Scalar.addi v1259 v1260
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_922 : BitVec 32 := 1#32
  let v1262 : BitVec 32 := Scalar.muli v8 c1_i32_922
  let v1263 : BitVec 32 := Scalar.addi v1261 v1262
  v1263.toNat
def k0_dev41 (d0 : Dev nD) : Nat :=
  let c0_i32_951 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_950 : BitVec 32 := 4#32
  let v1296 : BitVec 32 := Scalar.muli v2 c4_i32_950
  let v1297 : BitVec 32 := Scalar.addi c0_i32_951 v1296
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_952 : BitVec 32 := 2#32
  let v1298 : BitVec 32 := Scalar.muli v10 c2_i32_952
  let v1299 : BitVec 32 := Scalar.addi v1297 v1298
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_953 : BitVec 32 := 1#32
  let v1300 : BitVec 32 := Scalar.muli v8 c1_i32_953
  let v1301 : BitVec 32 := Scalar.addi v1299 v1300
  v1301.toNat
def k0_dev42 (d0 : Dev nD) : Nat :=
  let c0_i32_982 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_981 : BitVec 32 := 4#32
  let v1334 : BitVec 32 := Scalar.muli v2 c4_i32_981
  let v1335 : BitVec 32 := Scalar.addi c0_i32_982 v1334
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_983 : BitVec 32 := 2#32
  let v1336 : BitVec 32 := Scalar.muli v5 c2_i32_983
  let v1337 : BitVec 32 := Scalar.addi v1335 v1336
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_984 : BitVec 32 := 1#32
  let v1338 : BitVec 32 := Scalar.muli v11 c1_i32_984
  let v1339 : BitVec 32 := Scalar.addi v1337 v1338
  v1339.toNat
def k0_dev43 (d0 : Dev nD) : Nat :=
  let c0_i32_1014 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_1013 : BitVec 32 := 4#32
  let v1372 : BitVec 32 := Scalar.muli v9 c4_i32_1013
  let v1373 : BitVec 32 := Scalar.addi c0_i32_1014 v1372
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1015 : BitVec 32 := 2#32
  let v1374 : BitVec 32 := Scalar.muli v5 c2_i32_1015
  let v1375 : BitVec 32 := Scalar.addi v1373 v1374
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1016 : BitVec 32 := 1#32
  let v1376 : BitVec 32 := Scalar.muli v8 c1_i32_1016
  let v1377 : BitVec 32 := Scalar.addi v1375 v1376
  v1377.toNat
def k0_dev44 (d0 : Dev nD) : Nat :=
  let c0_i32_1046 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1045 : BitVec 32 := 4#32
  let v1411 : BitVec 32 := Scalar.muli v2 c4_i32_1045
  let v1412 : BitVec 32 := Scalar.addi c0_i32_1046 v1411
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_1047 : BitVec 32 := 2#32
  let v1413 : BitVec 32 := Scalar.muli v10 c2_i32_1047
  let v1414 : BitVec 32 := Scalar.addi v1412 v1413
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1048 : BitVec 32 := 1#32
  let v1415 : BitVec 32 := Scalar.muli v8 c1_i32_1048
  let v1416 : BitVec 32 := Scalar.addi v1414 v1415
  v1416.toNat
def k0_dev45 (d0 : Dev nD) : Nat :=
  let c0_i32_1078 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1077 : BitVec 32 := 4#32
  let v1450 : BitVec 32 := Scalar.muli v2 c4_i32_1077
  let v1451 : BitVec 32 := Scalar.addi c0_i32_1078 v1450
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1079 : BitVec 32 := 2#32
  let v1452 : BitVec 32 := Scalar.muli v5 c2_i32_1079
  let v1453 : BitVec 32 := Scalar.addi v1451 v1452
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1080 : BitVec 32 := 1#32
  let v1454 : BitVec 32 := Scalar.muli v11 c1_i32_1080
  let v1455 : BitVec 32 := Scalar.addi v1453 v1454
  v1455.toNat
def k0_off17 (d0 : Dev nD) (c0_i32_1110 : BitVec 32) (c4_i32 : BitVec 32) (c2_i32_1 : BitVec 32) (c1_i32 : BitVec 32) : Fin 2 → Nat :=
  let c1_i32_1108 : BitVec 32 := 1#32
  let v0 : BitVec 32 := Dev.word d0
  let v1 : BitVec 32 := Scalar.divsi v0 c4_i32
  let c2_i32 : BitVec 32 := 2#32
  let v2 : BitVec 32 := Scalar.remsi v1 c2_i32
  let v1492 : BitVec 32 := Scalar.subi c1_i32_1108 v2
  let c352_i32_1109 : BitVec 32 := 352#32
  let v1493 : BitVec 32 := Scalar.muli v1492 c352_i32_1109
  let v1494 : BitVec 32 := Scalar.addi c0_i32_1110 v1493
  let v3 : BitVec 32 := Dev.word d0
  let v4 : BitVec 32 := Scalar.divsi v3 c2_i32_1
  let c2_i32_0 : BitVec 32 := 2#32
  let v5 : BitVec 32 := Scalar.remsi v4 c2_i32_0
  let c176_i32_1111 : BitVec 32 := 176#32
  let v1495 : BitVec 32 := Scalar.muli v5 c176_i32_1111
  let v1496 : BitVec 32 := Scalar.addi v1494 v1495
  let v6 : BitVec 32 := Dev.word d0
  let v7 : BitVec 32 := Scalar.divsi v6 c1_i32
  let c2_i32_2 : BitVec 32 := 2#32
  let v8 : BitVec 32 := Scalar.remsi v7 c2_i32_2
  let c88_i32_1112 : BitVec 32 := 88#32
  let v1497 : BitVec 32 := Scalar.muli v8 c88_i32_1112
  let v1498 : BitVec 32 := Scalar.addi v1496 v1497
  let v1499 : Index := Scalar.indexCast v1498
  let c0_1113 : Index := 0#32
  ![v1499.toNat, 0]
def k0_off17_at (r : Fin 2) : BitVec 32 × BitVec 32 × BitVec 32 × BitVec 32 :=
  if r.val < 1 then
    (0#32, 4#32, 2#32, 1#32)
  else
    (704#32, 2#32, 1#32, 4#32)
def k0_off18 (d0 : Dev nD) (c0_i32_1130 : BitVec 32) (c4_i32 : BitVec 32) (c2_i32_1 : BitVec 32) (c1_i32 : BitVec 32) : Fin 2 → Nat :=
  let c1_i32_1128 : BitVec 32 := 1#32
  let v0 : BitVec 32 := Dev.word d0
  let v1 : BitVec 32 := Scalar.divsi v0 c4_i32
  let c2_i32 : BitVec 32 := 2#32
  let v2 : BitVec 32 := Scalar.remsi v1 c2_i32
  let v1516 : BitVec 32 := Scalar.subi c1_i32_1128 v2
  let c352_i32_1129 : BitVec 32 := 352#32
  let v1517 : BitVec 32 := Scalar.muli v1516 c352_i32_1129
  let v1518 : BitVec 32 := Scalar.addi c0_i32_1130 v1517
  let v3 : BitVec 32 := Dev.word d0
  let v4 : BitVec 32 := Scalar.divsi v3 c2_i32_1
  let c2_i32_0 : BitVec 32 := 2#32
  let v5 : BitVec 32 := Scalar.remsi v4 c2_i32_0
  let c176_i32_1131 : BitVec 32 := 176#32
  let v1519 : BitVec 32 := Scalar.muli v5 c176_i32_1131
  let v1520 : BitVec 32 := Scalar.addi v1518 v1519
  let c1_i32_1132 : BitVec 32 := 1#32
  let v6 : BitVec 32 := Dev.word d0
  let v7 : BitVec 32 := Scalar.divsi v6 c1_i32
  let c2_i32_2 : BitVec 32 := 2#32
  let v8 : BitVec 32 := Scalar.remsi v7 c2_i32_2
  let v1521 : BitVec 32 := Scalar.subi c1_i32_1132 v8
  let c88_i32_1133 : BitVec 32 := 88#32
  let v1522 : BitVec 32 := Scalar.muli v1521 c88_i32_1133
  let v1523 : BitVec 32 := Scalar.addi v1520 v1522
  let v1524 : Index := Scalar.indexCast v1523
  let c0_1134 : Index := 0#32
  ![v1524.toNat, 0]
def k0_off18_at (r : Fin 2) : BitVec 32 × BitVec 32 × BitVec 32 × BitVec 32 :=
  if r.val < 1 then
    (0#32, 4#32, 2#32, 1#32)
  else
    (704#32, 2#32, 1#32, 4#32)
def k0_off19 (d0 : Dev nD) (c0_i32_1151 : BitVec 32) (c4_i32 : BitVec 32) (c2_i32_1 : BitVec 32) (c1_i32 : BitVec 32) : Fin 2 → Nat :=
  let c1_i32_1149 : BitVec 32 := 1#32
  let v0 : BitVec 32 := Dev.word d0
  let v1 : BitVec 32 := Scalar.divsi v0 c4_i32
  let c2_i32 : BitVec 32 := 2#32
  let v2 : BitVec 32 := Scalar.remsi v1 c2_i32
  let v1541 : BitVec 32 := Scalar.subi c1_i32_1149 v2
  let c352_i32_1150 : BitVec 32 := 352#32
  let v1542 : BitVec 32 := Scalar.muli v1541 c352_i32_1150
  let v1543 : BitVec 32 := Scalar.addi c0_i32_1151 v1542
  let c1_i32_1152 : BitVec 32 := 1#32
  let v3 : BitVec 32 := Dev.word d0
  let v4 : BitVec 32 := Scalar.divsi v3 c2_i32_1
  let c2_i32_0 : BitVec 32 := 2#32
  let v5 : BitVec 32 := Scalar.remsi v4 c2_i32_0
  let v1544 : BitVec 32 := Scalar.subi c1_i32_1152 v5
  let c176_i32_1153 : BitVec 32 := 176#32
  let v1545 : BitVec 32 := Scalar.muli v1544 c176_i32_1153
  let v1546 : BitVec 32 := Scalar.addi v1543 v1545
  let v6 : BitVec 32 := Dev.word d0
  let v7 : BitVec 32 := Scalar.divsi v6 c1_i32
  let c2_i32_2 : BitVec 32 := 2#32
  let v8 : BitVec 32 := Scalar.remsi v7 c2_i32_2
  let c88_i32_1154 : BitVec 32 := 88#32
  let v1547 : BitVec 32 := Scalar.muli v8 c88_i32_1154
  let v1548 : BitVec 32 := Scalar.addi v1546 v1547
  let v1549 : Index := Scalar.indexCast v1548
  let c0_1155 : Index := 0#32
  ![v1549.toNat, 0]
def k0_off19_at (r : Fin 2) : BitVec 32 × BitVec 32 × BitVec 32 × BitVec 32 :=
  if r.val < 1 then
    (0#32, 4#32, 2#32, 1#32)
  else
    (704#32, 2#32, 1#32, 4#32)
def k0_off20 (d0 : Dev nD) (c0_i32_1172 : BitVec 32) (c4_i32 : BitVec 32) (c2_i32_1 : BitVec 32) (c1_i32 : BitVec 32) : Fin 2 → Nat :=
  let c1_i32_1170 : BitVec 32 := 1#32
  let v0 : BitVec 32 := Dev.word d0
  let v1 : BitVec 32 := Scalar.divsi v0 c4_i32
  let c2_i32 : BitVec 32 := 2#32
  let v2 : BitVec 32 := Scalar.remsi v1 c2_i32
  let v1566 : BitVec 32 := Scalar.subi c1_i32_1170 v2
  let c352_i32_1171 : BitVec 32 := 352#32
  let v1567 : BitVec 32 := Scalar.muli v1566 c352_i32_1171
  let v1568 : BitVec 32 := Scalar.addi c0_i32_1172 v1567
  let c1_i32_1173 : BitVec 32 := 1#32
  let v3 : BitVec 32 := Dev.word d0
  let v4 : BitVec 32 := Scalar.divsi v3 c2_i32_1
  let c2_i32_0 : BitVec 32 := 2#32
  let v5 : BitVec 32 := Scalar.remsi v4 c2_i32_0
  let v1569 : BitVec 32 := Scalar.subi c1_i32_1173 v5
  let c176_i32_1174 : BitVec 32 := 176#32
  let v1570 : BitVec 32 := Scalar.muli v1569 c176_i32_1174
  let v1571 : BitVec 32 := Scalar.addi v1568 v1570
  let c1_i32_1175 : BitVec 32 := 1#32
  let v6 : BitVec 32 := Dev.word d0
  let v7 : BitVec 32 := Scalar.divsi v6 c1_i32
  let c2_i32_2 : BitVec 32 := 2#32
  let v8 : BitVec 32 := Scalar.remsi v7 c2_i32_2
  let v1572 : BitVec 32 := Scalar.subi c1_i32_1175 v8
  let c88_i32_1176 : BitVec 32 := 88#32
  let v1573 : BitVec 32 := Scalar.muli v1572 c88_i32_1176
  let v1574 : BitVec 32 := Scalar.addi v1571 v1573
  let v1575 : Index := Scalar.indexCast v1574
  let c0_1177 : Index := 0#32
  ![v1575.toNat, 0]
def k0_off20_at (r : Fin 2) : BitVec 32 × BitVec 32 × BitVec 32 × BitVec 32 :=
  if r.val < 1 then
    (0#32, 4#32, 2#32, 1#32)
  else
    (704#32, 2#32, 1#32, 4#32)
def k0_off21 (d0 : Dev nD) : Fin 2 → Nat :=
  let c1408_i32_1278 : BitVec 32 := 1408#32
  let c1_i32_1276 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1692 : BitVec 32 := Scalar.subi c1_i32_1276 v8
  let c320_i32_1277 : BitVec 32 := 320#32
  let v1693 : BitVec 32 := Scalar.muli v1692 c320_i32_1277
  let v1694 : BitVec 32 := Scalar.addi c1408_i32_1278 v1693
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c160_i32_1279 : BitVec 32 := 160#32
  let v1695 : BitVec 32 := Scalar.muli v2 c160_i32_1279
  let v1696 : BitVec 32 := Scalar.addi v1694 v1695
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c80_i32_1280 : BitVec 32 := 80#32
  let v1697 : BitVec 32 := Scalar.muli v5 c80_i32_1280
  let v1698 : BitVec 32 := Scalar.addi v1696 v1697
  let v1699 : Index := Scalar.indexCast v1698
  let c0_1281 : Index := 0#32
  ![v1699.toNat, 0]
def k0_off22 (d0 : Dev nD) : Fin 2 → Nat :=
  let c1408_i32_1298 : BitVec 32 := 1408#32
  let c1_i32_1296 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1716 : BitVec 32 := Scalar.subi c1_i32_1296 v8
  let c320_i32_1297 : BitVec 32 := 320#32
  let v1717 : BitVec 32 := Scalar.muli v1716 c320_i32_1297
  let v1718 : BitVec 32 := Scalar.addi c1408_i32_1298 v1717
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c160_i32_1299 : BitVec 32 := 160#32
  let v1719 : BitVec 32 := Scalar.muli v2 c160_i32_1299
  let v1720 : BitVec 32 := Scalar.addi v1718 v1719
  let c1_i32_1300 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1721 : BitVec 32 := Scalar.subi c1_i32_1300 v5
  let c80_i32_1301 : BitVec 32 := 80#32
  let v1722 : BitVec 32 := Scalar.muli v1721 c80_i32_1301
  let v1723 : BitVec 32 := Scalar.addi v1720 v1722
  let v1724 : Index := Scalar.indexCast v1723
  let c0_1302 : Index := 0#32
  ![v1724.toNat, 0]
def k0_off23 (d0 : Dev nD) : Fin 2 → Nat :=
  let c1408_i32_1319 : BitVec 32 := 1408#32
  let c1_i32_1317 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1741 : BitVec 32 := Scalar.subi c1_i32_1317 v8
  let c320_i32_1318 : BitVec 32 := 320#32
  let v1742 : BitVec 32 := Scalar.muli v1741 c320_i32_1318
  let v1743 : BitVec 32 := Scalar.addi c1408_i32_1319 v1742
  let c1_i32_1320 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1744 : BitVec 32 := Scalar.subi c1_i32_1320 v2
  let c160_i32_1321 : BitVec 32 := 160#32
  let v1745 : BitVec 32 := Scalar.muli v1744 c160_i32_1321
  let v1746 : BitVec 32 := Scalar.addi v1743 v1745
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c80_i32_1322 : BitVec 32 := 80#32
  let v1747 : BitVec 32 := Scalar.muli v5 c80_i32_1322
  let v1748 : BitVec 32 := Scalar.addi v1746 v1747
  let v1749 : Index := Scalar.indexCast v1748
  let c0_1323 : Index := 0#32
  ![v1749.toNat, 0]
def k0_off24 (d0 : Dev nD) : Fin 2 → Nat :=
  let c1408_i32_1340 : BitVec 32 := 1408#32
  let c1_i32_1338 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1766 : BitVec 32 := Scalar.subi c1_i32_1338 v8
  let c320_i32_1339 : BitVec 32 := 320#32
  let v1767 : BitVec 32 := Scalar.muli v1766 c320_i32_1339
  let v1768 : BitVec 32 := Scalar.addi c1408_i32_1340 v1767
  let c1_i32_1341 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1769 : BitVec 32 := Scalar.subi c1_i32_1341 v2
  let c160_i32_1342 : BitVec 32 := 160#32
  let v1770 : BitVec 32 := Scalar.muli v1769 c160_i32_1342
  let v1771 : BitVec 32 := Scalar.addi v1768 v1770
  let c1_i32_1343 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1772 : BitVec 32 := Scalar.subi c1_i32_1343 v5
  let c80_i32_1344 : BitVec 32 := 80#32
  let v1773 : BitVec 32 := Scalar.muli v1772 c80_i32_1344
  let v1774 : BitVec 32 := Scalar.addi v1771 v1773
  let v1775 : Index := Scalar.indexCast v1774
  let c0_1345 : Index := 0#32
  ![v1775.toNat, 0]
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2x2x2x2048x1024 : Shape := ⟨5, ![2, 2, 2, 2048, 1024]⟩
abbrev S_ : Shape := ⟨0, ![]⟩
abbrev S2048x1024 : Shape := ⟨2, ![2048, 1024]⟩

abbrev nBuf : Space → Nat
  | .hbm => 3
  | .vmem => 0
  | .smem => 0
  | _ => 0

abbrev bufTy : (tb : Table) → Fin (tcTables nBuf tb) → BufTy
  | .hbm, ⟨0, _⟩ => ⟨S2x2x2x2048x1024, .f32⟩
  | .hbm, ⟨1, _⟩ => ⟨S_, .f32⟩
  | .hbm, ⟨2, _⟩ => ⟨S2048x1024, .f32⟩
  | _, _ => ⟨S2x2x2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Mesh.lean ====
/-
  The mesh, the tables of the schedule, and what every slab of the scratch buffer holds once it has been written.

  A device is a point of a cube, its id `4 * x + 2 * y + z`; `pr a` is the neighbour across axis `a`. The rows are cut in
  three parts `p`, each of eight blocks, and part `p` works along the axes `p, p + 1, p + 2` (mod 3). Part `p` has the
  slabs `22 * p + j` of the scratch and the transfers `14 * p + k`: transfer `k` reads slab `slotSrc k` and lands in slab
  `8 + k` of the neighbour across the `slotAx k`-th axis of the part.
-/
module

public import proofs.«01_k».proof.Proof.Gen.KernelIdeal.Frame
public import Mathlib.Tactic.IntervalCases

@[expose] public section

noncomputable section

namespace Cert.KernelIdeal.Hand

open Idealize.ShloMosaic Idealize.ShloMosaic.TcCoe
open Idealize.SL Idealize.SL.RA Idealize.SL.BI Idealize.SL.Sem

variable {F : FTy → Type} [FloatOps F]

/-! ## The cube -/

/-- The neighbour of `c` across axis `a` (read mod 3): one bit of its id flipped. -/
def pr (a : ℕ) (c : Dev nD) : Dev nD :=
  ⟨(if c.val / [4, 2, 1].getD (a % 3) 1 % 2 = 0 then c.val + [4, 2, 1].getD (a % 3) 1 else c.val - [4, 2, 1].getD (a % 3) 1) % 8,
    Nat.mod_lt _ (by decide)⟩

theorem pr_mod (a : ℕ) (c : Dev nD) : pr (a % 3) c = pr a c := Fin.ext (by unfold pr; simp only [Nat.mod_mod])

theorem pr_pr (a : ℕ) (c : Dev nD) : pr a (pr a c) = c := by
  rw [← pr_mod a, ← pr_mod a c]
  have h : a % 3 < 3 := Nat.mod_lt _ (by decide)
  generalize a % 3 = b at h
  revert b c; decide

/-- Flipping across one axis, as a bijection of the devices. -/
def ring (a : ℕ) : Dev nD ≃ Dev nD := ⟨pr a, pr a, pr_pr a, pr_pr a⟩

/-- The coordinate of `c` along axis `a`. -/
def bit (a : ℕ) (c : Dev nD) : ℕ := c.val / ([4, 2, 1].getD (a % 3) 1) % 2

/-! ## Tables -/

/-- The axis of the part (first, second, third) slot `k` goes along. -/
def slotAx (k : ℕ) : ℕ := [0, 0, 0, 0, 1, 1, 2, 2, 1, 1, 0, 0, 0, 0].getD k 0
/-- The slab slot `k` reads. -/
def slotSrc (k : ℕ) : ℕ := [0, 1, 2, 3, 4, 5, 6, 7, 7, 15, 7, 15, 16, 17].getD k 0

/-- The axis transfer `t` goes along. -/
def tAx (t : Fin 42) : ℕ := (t.val / 14 + slotAx (t.val % 14)) % 3
/-- The slab it reads on its sender, the slab it fills on its receiver. -/
def tSrc (t : Fin 42) : Fin 66 := ⟨(22 * (t.val / 14) + slotSrc (t.val % 14)) % 66, Nat.mod_lt _ (by decide)⟩
def tDst (t : Fin 42) : Fin 66 := ⟨(22 * (t.val / 14) + (8 + t.val % 14)) % 66, Nat.mod_lt _ (by decide)⟩

/-- The rows of a block of part `p`. -/
def rowsP (p : ℕ) : ℕ := if p < 2 then 88 else 80
/-- The rows of slab `i` in use. -/
def rowsS (i : Fin 66) : ℕ := rowsP (i.val / 22)
/-- The rows transfer `t` moves. -/
def rowsT (t : Fin 42) : ℕ := rowsP (t.val / 14)

theorem rowsS_src : ∀ t, rowsS (tSrc t) = rowsT t := by decide
theorem rowsS_dst : ∀ t, rowsS (tDst t) = rowsT t := by decide
theorem rowsP_le (p : ℕ) : rowsP p ≤ 88 := by unfold rowsP; split <;> omega

/-- The place of a slot among a part's sends in program order: the first of the part-0 send, and the step between parts. -/
def slotOrd (p k : ℕ) : ℕ :=
  [2 * p, 2 * p + 1, 7 + 2 * p, 13 + 2 * p, 6 + 2 * p, 12 + 2 * p, 18 + p, 21 + 3 * p, 22 + 3 * p, 30 + 2 * p,
    23 + 3 * p, 31 + 2 * p, 36 + p, 39 + p].getD k 0
/-- The place of transfer `t` in the order the kernel starts them (and, at its end, waits for them). -/
def sOrd (t : Fin 42) : ℕ := slotOrd (t.val / 14) (t.val % 14)

/-- The place of transfer `t` in the order the kernel waits for the arrivals. -/
def slotROrd (p k : ℕ) : ℕ :=
  [p, 3 + p, 7 + 2 * p, 13 + 3 * p, 6 + 2 * p, 14 + 3 * p, 12 + 3 * p, 21 + p, 24 + p, 27 + p,
    30 + 4 * p, 31 + 4 * p, 32 + 4 * p, 33 + 4 * p].getD k 0
def rOrd (t : Fin 42) : ℕ := slotROrd (t.val / 14) (t.val % 14)

/-- The place of slab `i` in the order the kernel stores them; a slab a transfer fills has none (100). -/
def slabOrdP (p j : ℕ) : ℕ :=
  [2 * p, 2 * p + 1, 7 + 2 * p, 13 + 2 * p, 6 + 2 * p, 12 + 2 * p, 18 + p, 21 + p].getD j 100
def iOrd (i : Fin 66) : ℕ := slabOrdP (i.val / 22) (i.val % 22)

theorem sOrd_inj : ∀ t u, sOrd t = sOrd u → t = u := by decide +kernel
theorem rOrd_inj : ∀ t u, rOrd t = rOrd u → t = u := by decide +kernel
theorem sOrd_lt : ∀ t, sOrd t < 42 := by decide +kernel
theorem rOrd_lt : ∀ t, rOrd t < 42 := by decide +kernel
theorem iOrd_inj : ∀ i j, iOrd i = iOrd j → iOrd i < 100 → i = j := by decide +kernel

/-- The transfer that fills slab `i` (a slab the kernel stores itself has none). -/
def inT (i : Fin 66) : Fin 42 := ⟨(14 * (i.val / 22) + (i.val % 22 - 8)) % 42, Nat.mod_lt _ (by decide)⟩
/-- Whether the kernel stores slab `i` itself. -/
def own (i : Fin 66) : Bool := decide (i.val % 22 < 8)

theorem own_dst : ∀ t, own (tDst t) = false := by decide +kernel
theorem inT_dst : ∀ t, inT (tDst t) = t := by decide +kernel
theorem dst_inT : ∀ i, own i = false → tDst (inT i) = i := by decide +kernel
theorem tDst_inj : ∀ t u, tDst t = tDst u → t = u := by decide +kernel
theorem own_iff : ∀ i, own i = true ↔ iOrd i < 24 := by decide +kernel

/-! ## Blocks of rows -/

/-- The block of part `p` device `c` ends up reducing. -/
def blkOf (p : ℕ) (c : Dev nD) : ℕ := 4 * bit p c + 2 * bit (p + 1) c + bit (p + 2) c

/-- `c` with the axes of part `p` flipped that the bits of `7 - j` name. -/
def fl (p j : ℕ) (c : Dev nD) : Dev nD :=
  let c := if j / 4 % 2 = 0 then pr p c else c
  let c := if j / 2 % 2 = 0 then pr (p + 1) c else c
  if j % 2 = 0 then pr (p + 2) c else c

/-- The first row of the block local slab `j` of part `p` on device `c` is about. -/
def rho (p j : ℕ) (c : Dev nD) : ℕ := 704 * p + rowsP p * blkOf p (fl p j c)

theorem rho_le : ∀ p < 3, ∀ j < 8, ∀ c, rho p j c + rowsP p ≤ 2048 := by decide +kernel

/-! ## Contents -/

section Contents

/-- An index of a rank-two array from two numbers. -/
def ix2 (r k : ℕ) : S2048x1024.Idx := fun
  | ⟨0, _⟩ => ⟨r % 2048, Nat.mod_lt _ (by decide)⟩
  | ⟨1, _⟩ => ⟨k % 1024, Nat.mod_lt _ (by decide)⟩

variable (X : Dev nD → S2048x1024.Idx → F .f32)

theorem bitsLt : FTy.bits .bf16 < FTy.bits .f32 := by decide
abbrev up (x : F .bf16) : F .f32 := FloatOps.extf .f32 bitsLt x
abbrev dn (x : F .f32) : F .bf16 := FloatOps.truncf .bf16 bitsLt x

/-- Row `r`, column `k` of the block of device `c`'s input that local slab `j` of part `p` is about. -/
def xb (p j : ℕ) (c : Dev nD) (r k : ℕ) : F .f32 := X c (ix2 (rho p j c + r) k)

/-- Slabs 0 to 3: the input's block as it is. -/
def w0 (p j : ℕ) (c : Dev nD) (r k : ℕ) : F .bf16 := dn (xb X p j c r k)
/-- Slabs 4 and 5: with what arrived along the first axis. -/
def w4 (p : ℕ) (c : Dev nD) (r k : ℕ) : F .bf16 := dn (FloatOps.addf (xb X p 4 c r k) (up (w0 X p 0 (pr p c) r k)))
def w5 (p : ℕ) (c : Dev nD) (r k : ℕ) : F .bf16 := dn (FloatOps.addf (xb X p 5 c r k) (up (w0 X p 1 (pr p c) r k)))
/-- Slab 6: with what arrived along the first and the second axis. -/
def w6 (p : ℕ) (c : Dev nD) (r k : ℕ) : F .bf16 :=
  dn (FloatOps.addf (FloatOps.addf (xb X p 6 c r k) (up (w0 X p 2 (pr p c) r k))) (up (w4 X p (pr (p + 1) c) r k)))
/-- Slab 7: the block reduced over the eight devices. -/
def w7 (p : ℕ) (c : Dev nD) (r k : ℕ) : F .bf16 :=
  dn (FloatOps.addf (FloatOps.addf (FloatOps.addf (xb X p 7 c r k) (up (w0 X p 3 (pr p c) r k))) (up (w5 X p (pr (p + 1) c) r k)))
    (up (w6 X p (pr (p + 2) c) r k)))

/-- Row `r`, column `k` of slab `j` of part `p` on device `c`, once it has been written. -/
def slabV (p j : ℕ) (c : Dev nD) (r k : ℕ) : F .bf16 :=
  match j with
  | 0 => w0 X p 0 c r k
  | 1 => w0 X p 1 c r k
  | 2 => w0 X p 2 c r k
  | 3 => w0 X p 3 c r k
  | 4 => w4 X p c r k
  | 5 => w5 X p c r k
  | 6 => w6 X p c r k
  | 7 => w7 X p c r k
  | 8 => w0 X p 0 (pr p c) r k
  | 9 => w0 X p 1 (pr p c) r k
  | 10 => w0 X p 2 (pr p c) r k
  | 11 => w0 X p 3 (pr p c) r k
  | 12 => w4 X p (pr (p + 1) c) r k
  | 13 => w5 X p (pr (p + 1) c) r k
  | 14 => w6 X p (pr (p + 2) c) r k
  | 15 => w7 X p (pr (p + 2) c) r k
  | 16 => w7 X p (pr (p + 1) c) r k
  | 17 => w7 X p (pr (p + 2) (pr (p + 1) c)) r k
  | 18 => w7 X p (pr p c) r k
  | 19 => w7 X p (pr (p + 2) (pr p c)) r k
  | 20 => w7 X p (pr (p + 1) (pr p c)) r k
  | _ => w7 X p (pr (p + 2) (pr (p + 1) (pr p c))) r k

/-- A slab a transfer fills holds what the slab the transfer reads holds on the neighbour. -/
theorem slabV_land (p k : ℕ) (hk : k < 14) (c : Dev nD) (r q : ℕ) :
    slabV X p (8 + k) c r q = slabV X p (slotSrc k) (pr (p + slotAx k) c) r q := by
  interval_cases k <;> rfl

/-- The scratch buffer of device `c` once every slab has been written. -/
def scrC (c : Dev nD) : S66x88x1024.Idx → F .bf16 := fun i =>
  slabV X ((i 0).val / 22) ((i 0).val % 22) c (i 1).val (i 2).val

/-- The device that reduces block `b` of part `p`. -/
def owner (p b : ℕ) : Dev nD :=
  ⟨(b / 4 % 2 * [4, 2, 1].getD (p % 3) 0 + b / 2 % 2 * [4, 2, 1].getD ((p + 1) % 3) 0 + b % 2 * [4, 2, 1].getD ((p + 2) % 3) 0) % 8,
    Nat.mod_lt _ (by decide)⟩

/-- The part a row is in. -/
def partOf (r : ℕ) : ℕ := if r < 704 then 0 else if r < 1408 then 1 else 2

/-- The result, the same on every device: each block as its reducer rounded it. -/
def outV (r k : ℕ) : F .f32 :=
  let p := partOf r
  let q := r - 704 * p
  up (w7 X p (owner p (q / rowsP p)) (q % rowsP p) k)

def outC : S2048x1024.Idx → F .f32 := fun i => outV X (i 0).val (i 1).val

theorem owner_blk : ∀ p < 3, ∀ c, owner p (blkOf p c) = c := by decide +kernel
theorem blk_owner : ∀ p < 3, ∀ b < 8, blkOf p (owner p b) = b := by decide +kernel
theorem blkOf_lt : ∀ p < 3, ∀ c, blkOf p c < 8 := by decide +kernel

/-- The result in the block device `c` reduces. -/
theorem outV_block (p : ℕ) (hp : p < 3) (d : Dev nD) (r k : ℕ) (hr : r < rowsP p) :
    outV X (704 * p + rowsP p * blkOf p d + r) k = up (w7 X p d r k) := by
  have hb := blkOf_lt p hp d
  have ho := owner_blk p hp d
  have hP : partOf (704 * p + rowsP p * blkOf p d + r) = p := by
    generalize blkOf p d = b at hb
    interval_cases p <;>
      simp only [show rowsP 0 = 88 from rfl, show rowsP 1 = 88 from rfl, show rowsP 2 = 80 from rfl] at * <;>
      unfold partOf <;> split <;> (try split) <;> omega
  unfold outV
  simp only [hP]
  rw [show 704 * p + rowsP p * blkOf p d + r - 704 * p = rowsP p * blkOf p d + r from by omega,
    Nat.mul_add_div (by omega), Nat.div_eq_of_lt hr, Nat.mul_add_mod, Nat.mod_eq_of_lt hr, Nat.add_zero, ho]

/-- The local tag of the block slab `i` is about, once its rows are final: slab 7 the device's own, 15 to 21 the others'. -/
def outTag (j : ℕ) : ℕ := if j = 7 then 7 else 21 - j

/-- Slabs 7 and 15 to 21 hold reduced blocks: each the result, rounded, in the rows of its tag. -/
theorem out_slab (p : ℕ) (hp : p < 3) (j : ℕ) (hj : j = 7 ∨ (15 ≤ j ∧ j < 22)) (c : Dev nD) (r k : ℕ) (hr : r < rowsP p) :
    outV X (rho p (outTag j) c + r) k = up (slabV X p j c r k) := by
  unfold rho
  rw [outV_block X p hp _ r k hr]
  congr 1
  rcases hj with rfl | ⟨h1, h2⟩
  · rfl
  · interval_cases j <;> rfl

/-- Every row is in some block. -/
theorem row_block (r : ℕ) (hr : r < 2048) : ∃ p < 3, ∃ b < 8, 704 * p + rowsP p * b ≤ r ∧ r < 704 * p + rowsP p * b + rowsP p := by
  refine ⟨partOf r, by unfold partOf; split <;> (try split) <;> omega, (r - 704 * partOf r) / rowsP (partOf r), ?_⟩
  unfold partOf rowsP
  split
  · simp only [Nat.zero_lt_two, if_true]; omega
  · split
    · simp only [Nat.one_lt_two, if_true]; omega
    · simp only [Nat.lt_irrefl, if_false]; omega

/-- Every block has a tag on every device. -/
theorem tag_block : ∀ c : Dev nD, ∀ p < 3, ∀ b < 8, ∃ j < 8, blkOf p (fl p j c) = b := by decide +kernel

end Contents

end Cert.KernelIdeal.Hand

end
-- ==== Proof.Schedule.lean ====
/-
  The protocol of the transfers: the cells, who pays what into them and with what contents, what a device owes and the
  levels its waits go by.

  The barrier cell of a device has one duty per axis, paid by the neighbour across that axis, who hands over the slabs that
  transfers along that axis fill. The send cell of a transfer gives the share of the slab it reads back; its arrival cell
  gives the slab it fills, at what the sender's slab holds.
-/
module

public import proofs.«01_k».proof.Proof.Mesh
public import Idealize.ShloMosaic.Lib.Pipeline.Launch
public import Idealize.ShloMosaic.Lib.Pipeline.Kit
public import Idealize.ShloMosaic.Lib.Tactic

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's copy, and the transfers' with three duty names -/

abbrev UX : Type := URounds (GSem nD τ sig) (Fin 3)
abbrev UU : Type := UR sig nD τ × UX

local notation "𝕄" => MT nD τ sig Unit (Elt F) ℕ UU ℕ

abbrev EP : Emb (UR sig nD τ) (MT nD τ sig Unit (Elt F) ℕ UU ℕ) := embL
abbrev ER : Emb UX (MT nD τ sig Unit (Elt F) ℕ UU ℕ) := embR

abbrev 𝒱₀ : Variants := Variants.none

/-! ## Cells -/

abbrev barS : Sem sig := (SemArray.scalar (sig.barrier 0 rfl) : Sems sig S_).sem
def sendS (t : Fin 42) : DmaSem sig := ⟨2 + t.val, by have := t.isLt; show 2 + t.val < 86; omega⟩
def recvS (t : Fin 42) : DmaSem sig := ⟨44 + t.val, by have := t.isLt; show 44 + t.val < 86; omega⟩

abbrev barCell (c : Dev nD) : GSem nD τ sig := ((c : Thread nD τ), .reg barS)
abbrev sendCell (t : Fin 42) (c : Dev nD) : GSem nD τ sig := ((c : Thread nD τ), .dma (sendS t))
abbrev recvCell (t : Fin 42) (c : Dev nD) : GSem nD τ sig := ((c : Thread nD τ), .dma (recvS t))

/-- What a semaphore is: 0 a staging one, 1 the barrier, 2 a send one, 3 an arrival one. -/
def kindOf : SemLoc sig → ℕ
  | .reg _ => 1
  | .dma q => if q.val < 2 then 0 else if q.val < 44 then 2 else 3
/-- The transfer a send or arrival semaphore belongs to. -/
def trOf : SemLoc sig → Fin 42
  | .reg _ => 0
  | .dma q => ⟨(q.val - 2) % 42, Nat.mod_lt _ (by decide)⟩

theorem kind_bar : kindOf (.reg barS) = 1 := rfl
theorem kind_send (t : Fin 42) : kindOf (.dma (sendS t)) = 2 := by
  have := t.isLt
  unfold kindOf sendS; dsimp only; rw [if_neg (by omega), if_pos (by omega)]
theorem kind_recv (t : Fin 42) : kindOf (.dma (recvS t)) = 3 := by
  have := t.isLt
  unfold kindOf recvS; dsimp only; rw [if_neg (by omega), if_neg (by omega)]
theorem tr_send (t : Fin 42) : trOf (.dma (sendS t)) = t := by
  have := t.isLt
  apply Fin.ext; unfold trOf sendS; dsimp only; omega
theorem tr_recv (t : Fin 42) : trOf (.dma (recvS t)) = t := by
  have := t.isLt
  apply Fin.ext; unfold trOf recvS; dsimp only; omega

/-! ## Slabs -/

/-- A slab of `e` rows, and the same without its leading axis of one. -/
abbrev S1e (e : ℕ) : Shape := ⟨3, ![1, e, 1024]⟩
abbrev S2e (e : ℕ) : Shape := ⟨2, ![e, 1024]⟩

abbrev xM : Memref sig .tc .vmem S2048x1024 .f32 := Memref.whole cc0_stg0_0
abbrev oM : Memref sig .tc .vmem S2048x1024 .f32 := Memref.whole cc0_stg1_0
abbrev scrM : Memref sig .tc .vmem S66x88x1024 .bf16 := Memref.whole cc0_scratch0

/-- The elements of slab `i` in use. -/
def slabSet (i : Fin 66) : Finset S66x88x1024.Idx := Finset.univ.filter fun z => (z 0).val = i.val ∧ (z 1).val < rowsS i
theorem mem_slabSet (i : Fin 66) (z : S66x88x1024.Idx) : z ∈ slabSet i ↔ (z 0).val = i.val ∧ (z 1).val < rowsS i := by
  unfold slabSet; rw [Finset.mem_filter]; exact ⟨fun h => h.2, fun h => ⟨Finset.mem_univ _, h⟩⟩

/-- The rectangle of the first `e` rows of slab `i`. -/
abbrev slabR (e i : ℕ) (h : ∀ a, (![i, 0, 0] : Fin 3 → ℕ) a + (S1e e).size a ≤ S66x88x1024.size a) : Rect S66x88x1024 :=
  Rect.unit (s := S66x88x1024) ![i, 0, 0] (S1e e).size h
/-- Slab `i` as the transfers name it. -/
abbrev slabM (e i : ℕ) (h : ∀ a, (![i, 0, 0] : Fin 3 → ℕ) a + (S1e e).size a ≤ S66x88x1024.size a) (hs : (S1e e).Squeezes (S2e e)) :
    Memref sig .tc .vmem (S2e e) .bf16 :=
  Memref.squeeze (s := S1e e) (scrM.slice (slabR e i h) (fun _ => rfl)) (S2e e) hs

theorem slabR_set (i : Fin 66) (h) : (slabR (rowsS i) i.val h).set = slabSet i := by
  ext z
  rw [mem_slabSet, Rect.mem_set_unit]
  constructor
  · intro hz
    have h0 := hz 0; have h1 := hz 1
    change i.val ≤ (z 0).val ∧ (z 0).val < i.val + 1 at h0
    change 0 ≤ (z 1).val ∧ (z 1).val < 0 + rowsS i at h1
    exact ⟨by omega, by omega⟩
  · rintro ⟨h0, h1⟩ a
    have h2 := (z 2).isLt
    change (z 2).val < 1024 at h2
    match a with
    | 0 => change i.val ≤ (z 0).val ∧ (z 0).val < i.val + 1; omega
    | 1 => change 0 ≤ (z 1).val ∧ (z 1).val < 0 + rowsS i; omega
    | 2 => change 0 ≤ (z 2).val ∧ (z 2).val < 0 + 1024; omega

theorem slabM_set (i : Fin 66) (h hs) : (slabM (rowsS i) i.val h hs).view.set = slabSet i := by
  refine (View.set_reshape _ _).trans ?_
  exact (View.set_slice_whole _ _).trans (slabR_set i h)

/-- The credit of a transfer of `e` rows. -/
def Nn (e : ℕ) : ℕ := sig.dmaCredit .tc (Kind.tc.table .vmem) (View.whole cc0_scratch0).buf (S2e e) .bf16
theorem slabM_credit (e i : ℕ) (h hs) : (slabM e i h hs).view.dmaCredit = Nn e := rfl
/-- The credit of transfer `t`. -/
def NT (t : Fin 42) : ℕ := Nn (rowsT t)
theorem rowsT_pos (t : Fin 42) : 0 < rowsT t := by unfold rowsT rowsP; split <;> omega
theorem NT_pos (t : Fin 42) : 0 < NT t := by
  refine sig.dmaCredit_pos .tc _ (View.whole cc0_scratch0).buf (S2e (rowsT t)) .bf16 ?_
  have h := rowsT_pos t
  show 0 < ∏ a, (![rowsT t, 1024] : Fin 2 → ℕ) a
  rw [Fin.prod_univ_two]; simp only [Matrix.cons_val_zero, Matrix.cons_val_one]; omega

/-! ## Shares of a slab several transfers read -/

/-- The share of its slab that the `n`-th reader takes, and what is left after `n`. -/
def keepSh : ℕ → PosShare TreeShare
  | 0 => fullShare
  | n + 1 => (keepSh n).right
/-- The place of transfer `t` among the readers of its slab. -/
def tRank (t : Fin 42) : Fin 3 := [0, 0, 0, 0, 0, 0, 0, 0, 1, 0, 2, 1, 0, 0].getD (t.val % 14) 0
/-- The share of the slab transfer `t` reads with. -/
def shr (t : Fin 42) : PosShare TreeShare := (keepSh (tRank t).val).left

/-- Slab `i` of device `c`, at share `q` and contents `f`. -/
abbrev slabPt (c : Dev nD) (i : Fin 66) (q : PosShare TreeShare) (f : Buf (Elt F) ((c : Thread nD τ).loc cc0_scratch0)) : sProp 𝕄 :=
  (c : Thread nD τ).loc cc0_scratch0 ↦[slabSet i]{q} f

section Schedule

variable (X : Dev nD → S2048x1024.Idx → F .f32)

/-- What slab `i` of device `c` holds once written. -/
abbrev slabF (c : Dev nD) : Buf (Elt F) ((c : Thread nD τ).loc cc0_scratch0) := scrC X c

/-- The neighbour across axis `a` hands over the slabs transfers along `a` fill, with their arrival cells open. -/
def barPay (a : Fin 3) (c : Dev nD) : sProp 𝕄 :=
  bigSep (Finset.univ.filter fun t : Fin 42 => tAx t = a.val) fun t =>
    iprop((∃ f, slabPt (pr a.val c) (tDst t) fullShare f) ∗ reached ER (recvCell t (pr a.val c)) 0)
def sendPay (t : Fin 42) (c : Dev nD) : sProp 𝕄 := slabPt c (tSrc t) (shr t) (slabF X c)
def recvPay (t : Fin 42) (c : Dev nD) : sProp 𝕄 := slabPt c (tDst t) fullShare (slabF X c)

/-- One round: three duties of one unit at a barrier cell, one at a send or arrival cell, of the transfer's credit. -/
def kRd : Rounds.Schedule (GSem nD τ sig) (Fin 3) 𝕄 where
  duties g r := if r = 0 ∧ g.1.2 = .tc then (if kindOf g.2 = 1 then Finset.univ else if kindOf g.2 = 0 then ∅ else {0}) else ∅
  unitless _ := False
  amount g _ _ := if kindOf g.2 = 1 then 1 else NT (trOf g.2)
  payload g _ d :=
    if kindOf g.2 = 1 then barPay d g.1.1
    else if kindOf g.2 = 2 then sendPay X (trOf g.2) g.1.1
    else if kindOf g.2 = 3 then recvPay X (trOf g.2) g.1.1
    else iprop(emp)
  amount_pos g _ _ _ := by
    by_cases h : kindOf g.2 = 1
    · rw [if_pos h]; exact Nat.one_pos
    · rw [if_neg h]; exact NT_pos _

instance barPay_storable (a : Fin 3) (c : Dev nD) : BI.Storable (upEmb : UEmb _ 𝕄) (barPay (F := F) a c) := by
  unfold barPay; infer_instance
instance sendPay_storable (t : Fin 42) (c : Dev nD) : BI.Storable (upEmb : UEmb _ 𝕄) (sendPay (F := F) X t c) := by
  unfold sendPay; infer_instance
instance recvPay_storable (t : Fin 42) (c : Dev nD) : BI.Storable (upEmb : UEmb _ 𝕄) (recvPay (F := F) X t c) := by
  unfold recvPay; infer_instance
instance kRd_payload_storable (g : GSem nD τ sig) (r : ℕ) (d : Fin 3) :
    BI.Storable (upEmb : UEmb _ 𝕄) ((kRd (F := F) X).payload g r d) := by
  show BI.Storable upEmb (if kindOf g.2 = 1 then barPay d g.1.1
    else if kindOf g.2 = 2 then sendPay X (trOf g.2) g.1.1
    else if kindOf g.2 = 3 then recvPay X (trOf g.2) g.1.1
    else iprop(emp))
  (repeat' split) <;> infer_instance

variable (c : Dev nD) (t : Fin 42)

theorem duties_bar : (kRd (F := F) X).duties (barCell c) 0 = Finset.univ := by
  dsimp only [kRd]; rw [if_pos ⟨rfl, rfl⟩, if_pos kind_bar]
theorem duties_send : (kRd (F := F) X).duties (sendCell t c) 0 = {0} := by
  dsimp only [kRd]; rw [if_pos ⟨rfl, rfl⟩, kind_send, if_neg (by decide), if_neg (by decide)]
theorem duties_recv : (kRd (F := F) X).duties (recvCell t c) 0 = {0} := by
  dsimp only [kRd]; rw [if_pos ⟨rfl, rfl⟩, kind_recv, if_neg (by decide), if_neg (by decide)]
theorem duties_later (g : GSem nD τ sig) : ∀ r, 1 ≤ r → (kRd (F := F) X).duties g r = ∅ :=
  fun r hr => by dsimp only [kRd]; rw [if_neg fun h => by omega]

theorem amount_bar (d : Fin 3) : (kRd (F := F) X).amount (barCell c) 0 d = 1 := by dsimp only [kRd]; exact if_pos kind_bar
theorem amount_send (d : Fin 3) : (kRd (F := F) X).amount (sendCell t c) 0 d = NT t := by
  dsimp only [kRd]; rw [kind_send, tr_send, if_neg (by decide)]
theorem amount_recv (d : Fin 3) : (kRd (F := F) X).amount (recvCell t c) 0 d = NT t := by
  dsimp only [kRd]; rw [kind_recv, tr_recv, if_neg (by decide)]

theorem expect_bar : (kRd (F := F) X).expect (barCell c) 0 = 3 := by
  unfold Schedule.expect Schedule.amountOf
  rw [duties_bar, Finset.sum_congr rfl fun d _ => amount_bar X c d, Finset.sum_const, Finset.card_univ, Fintype.card_fin, smul_eq_mul]
theorem expect_send : (kRd (F := F) X).expect (sendCell t c) 0 = NT t := by
  unfold Schedule.expect Schedule.amountOf; rw [duties_send, Finset.sum_singleton, amount_send]
theorem expect_recv : (kRd (F := F) X).expect (recvCell t c) 0 = NT t := by
  unfold Schedule.expect Schedule.amountOf; rw [duties_recv, Finset.sum_singleton, amount_recv]

theorem payload_bar (d : Fin 3) : (kRd (F := F) X).payload (barCell c) 0 d = barPay d c := by
  dsimp only [kRd]; rw [if_pos kind_bar]
theorem payload_send (d : Fin 3) : (kRd (F := F) X).payload (sendCell t c) 0 d = sendPay X t c := by
  dsimp only [kRd]; rw [kind_send, tr_send, if_neg (by decide), if_pos rfl]
theorem payload_recv (d : Fin 3) : (kRd (F := F) X).payload (recvCell t c) 0 d = recvPay X t c := by
  dsimp only [kRd]; rw [kind_recv, tr_recv, if_neg (by decide), if_neg (by decide), if_pos rfl]

theorem rest_bar : bigSep ((kRd (F := F) X).duties (barCell c) 0 \ ∅) (fun d => (kRd (F := F) X).payload (barCell c) 0 d)
    = iprop(barPay 0 c ∗ barPay 1 c ∗ barPay 2 c) := by
  rw [Finset.sdiff_empty, duties_bar, bigSep_univ_eq_bigSepL [0, 1, 2] (by decide) (by decide), bigSepL_cons_cons, bigSepL_cons_cons,
    bigSepL_singleton, payload_bar, payload_bar, payload_bar]
  rfl
theorem rest_send : bigSep ((kRd (F := F) X).duties (sendCell t c) 0 \ ∅) (fun d => (kRd (F := F) X).payload (sendCell t c) 0 d)
    = sendPay X t c := by
  rw [Finset.sdiff_empty, duties_send, bigSep_singleton, payload_send]
theorem rest_recv : bigSep ((kRd (F := F) X).duties (recvCell t c) 0 \ ∅) (fun d => (kRd (F := F) X).payload (recvCell t c) 0 d)
    = recvPay X t c := by
  rw [Finset.sdiff_empty, duties_recv, bigSep_singleton, payload_recv]

end Schedule

/-! ## What a device owes, and the levels -/

/-- The arrival credit of transfer `t`, sent by `c`. -/
def owe1 (c : Dev nD) (t : Fin 42) : CellTallies nD τ sig Unit := tallyAt (recvCell t (pr (tAx t) c)) () (NT t)
/-- What `c` owes after its first `k` sends. -/
def Ow (c : Dev nD) (k : ℕ) : CellTallies nD τ sig Unit := ∑ t : Fin 42, if k ≤ sOrd t then owe1 c t else 0

theorem Ow_succ (c : Dev nD) (k : ℕ) (t : Fin 42) (hk : sOrd t = k) : Ow c k = Ow c (k + 1) + owe1 c t := by
  unfold Ow
  rw [← Finset.add_sum_erase Finset.univ _ (Finset.mem_univ t), ← Finset.add_sum_erase Finset.univ (fun t => if k + 1 ≤ sOrd t then _ else _) (Finset.mem_univ t),
    if_pos (by omega), if_neg (by omega), zero_add, add_comm]
  congr 1
  refine Finset.sum_congr rfl fun u hu => ?_
  have hne : sOrd u ≠ k := fun h => (Finset.mem_erase.mp hu).1 (sOrd_inj u t (h.trans hk.symm))
  by_cases h : k ≤ sOrd u
  · rw [if_pos h, if_pos (by omega)]
  · rw [if_neg h, if_neg (by omega)]

theorem Ow_end (c : Dev nD) : Ow c 42 = 0 := by
  unfold Ow
  exact Finset.sum_eq_zero fun t _ => if_neg (by have := sOrd_lt t; omega)

theorem Ow_pos {c : Dev nD} {k : ℕ} {g : GSem nD τ sig} {u : Unit} (h : 0 < Ow c k g u) :
    ∃ t, k ≤ sOrd t ∧ g = recvCell t (pr (tAx t) c) := by
  by_contra hn
  refine (Nat.lt_irrefl 0) (lt_of_lt_of_eq h ?_)
  unfold Ow
  rw [Finset.sum_apply, Finsupp.finset_sum_apply]
  refine Finset.sum_eq_zero fun t _ => ?_
  by_cases hk : k ≤ sOrd t
  · rw [if_pos hk, owe1, tallyAt_apply, if_neg fun hg => hn ⟨t, hk, hg.1⟩]
  · rw [if_neg hk]; rfl

/-- At launch: the arrivals, and a unit to the barrier cell of each neighbour. -/
def O₀ (c : Dev nD) : CellTallies nD τ sig Unit :=
  Ow c 0 + tallyAt (barCell (pr 2 c)) () 1 + tallyAt (barCell (pr 1 c)) () 1 + tallyAt (barCell (pr 0 c)) () 1

def L (g : GSem nD τ sig) : Finset Unit := if g.1.2 = .tc then {()} else ∅
/-- The barrier at 1, the arrivals above it in the order they are sent, the rest at 0. -/
def lv (g : GSem nD τ sig) (_ : Unit) : ℕ := if kindOf g.2 = 1 then 1 else if kindOf g.2 = 3 then sOrd (trOf g.2) + 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u) : lv (barCell c) u = 1 := by unfold lv; rw [if_pos kind_bar]
theorem lv_send (t : Fin 42) (c : Dev nD) (u) : lv (sendCell t c) u = 0 := by
  unfold lv; rw [kind_send, if_neg (by decide), if_neg (by decide)]
theorem lv_recv (t : Fin 42) (c : Dev nD) (u) : lv (recvCell t c) u = sOrd t + 2 := by
  unfold lv; rw [kind_recv, tr_recv, if_neg (by decide), if_pos rfl]

/-- A wait on a cell below every arrival still owed. -/
theorem mayWait (c : Dev nD) (sm : SemLoc sig) (k : ℕ) (h : lv ((c : Thread nD τ), sm) () < k + 2) :
    (levAts L lv : sProp 𝕄) ⊢ MayWait (c : Thread nD τ) sm () (Ow c k) :=
  MayOwe.of_cut (L := L) (lev := lv) (lv ((c : Thread nD τ), sm) ())
    (fun p hp => by rw [Finset.mem_singleton.mp hp, L_tc]; exact Finset.mem_singleton_self _)
    (fun g u hg => by obtain ⟨t, _, rfl⟩ := Ow_pos hg; rw [L_tc]; exact Finset.mem_singleton_self _)
    (fun p hp => by rw [Finset.mem_singleton.mp hp])
    (fun g u hg => by obtain ⟨t, ht, rfl⟩ := Ow_pos hg; rw [lv_recv]; omega)

end Cert.KernelIdeal.Hand

end
-- ==== Proof.Slabs.lean ====
/-
  What the kernel's loads, stores and copies read and write, in terms of the contents of the slabs: a load of a block of the
  input, a load and a store of a slab, a copy of a slab to a neighbour, and the values the kernel computes between them.
-/
module

public import proofs.«01_k».proof.Proof.Schedule
public import Idealize.ShloMosaic.Lib.Pipeline.Value
public import Idealize.ShloMosaic.Lib.Pipeline.ValueKit.Geometry

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (X : Dev nD → S2048x1024.Idx → F .f32)

/-! ## Vectors -/

/-- A block of the input: `e` rows from the first row of local slab `j` of part `p`. -/
def xRow (p j e : ℕ) (c : Dev nD) : (S2e e).Idx → F .f32 := fun y => xb X p j c (y 0).val (y 1).val
/-- Slab `i` as it is loaded. -/
def slRow (i e : ℕ) (c : Dev nD) : (S1e e).Idx → F .bf16 := fun y => slabV X (i / 22) (i % 22) c (y 1).val (y 2).val

theorem ix2_eta (z : S2048x1024.Idx) : ix2 (z 0).val (z 1).val = z := by
  funext a
  match a with
  | 0 => exact Fin.ext (Nat.mod_eq_of_lt (z 0).isLt)
  | 1 => exact Fin.ext (Nat.mod_eq_of_lt (z 1).isLt)

theorem slabR_val (e i : ℕ) (h) (y : (S1e e).Idx) (a) : ((slabR e i h).emb y a : ℕ) = (![i, 0, 0] : Fin 3 → ℕ) a + (y a).val :=
  ValueKit.rect_emb_unit_val _ _ _ y a

theorem slabR_0 (e i : ℕ) (h) (y : (S1e e).Idx) : ((slabR e i h).emb y 0).val = i := by
  have h1 := slabR_val e i h y 0
  have h2 := (y 0).isLt
  change (y 0).val < 1 at h2
  change _ = i + (y 0).val at h1
  omega
theorem slabR_1 (e i : ℕ) (h) (y : (S1e e).Idx) : ((slabR e i h).emb y 1).val = (y 1).val :=
  (slabR_val e i h y 1).trans (Nat.zero_add _)
theorem slabR_2 (e i : ℕ) (h) (y : (S1e e).Idx) : ((slabR e i h).emb y 2).val = (y 2).val :=
  (slabR_val e i h y 2).trans (Nat.zero_add _)

theorem scrC_at (c : Dev nD) (e i : ℕ) (h) (y : (S1e e).Idx) : scrC X c ((slabR e i h).emb y) = slRow X i e c y := by
  unfold scrC slRow
  rw [slabR_0, slabR_1, slabR_2]

/-- A load of a slab. -/
theorem slab_read (c : Dev nD) (e i : ℕ) (h) :
    (scrM.access (slabR e i h)).read (Elt F) (slabF X c) = slRow X i e c :=
  funext fun y => scrC_at X c e i h y

theorem access_set (e i : ℕ) (h) (hi : i < 66) (he : e = rowsS ⟨i, hi⟩) : (scrM.access (slabR e i h)).set = slabSet ⟨i, hi⟩ := by
  subst he
  exact (View.set_slice_whole _ _).trans (slabR_set ⟨i, hi⟩ h)

theorem slabM_set' (e i : ℕ) (h hs) (hi : i < 66) (he : e = rowsS ⟨i, hi⟩) : (slabM e i h hs).view.set = slabSet ⟨i, hi⟩ := by
  subst he
  exact slabM_set ⟨i, hi⟩ h hs

/-- A store of a slab. -/
theorem slab_write (c : Dev nD) (e i : ℕ) (h) (hi : i < 66) (he : e = rowsS ⟨i, hi⟩) (f : S66x88x1024.Idx → F .bf16)
    (w : (S1e e).Idx → F .bf16) (hw : w = slRow X i e c) :
    ∀ z ∈ slabSet ⟨i, hi⟩, (scrM.access (slabR e i h)).write (Elt F) f w Finset.univ z = scrC X c z := by
  intro z hz
  rw [← access_set e i h hi he] at hz
  obtain ⟨y, -, rfl⟩ := Finset.mem_map.mp hz
  refine (View.write_emb_of_mem _ _ (Finset.mem_univ y)).trans ?_
  subst hw
  exact (scrC_at X c e i h y).symm

/-- The slab a transfer fills, at what the slab it reads holds on the sender. -/
theorem scr_land (t : Fin 42) (c : Dev nD) (r k : ℕ) :
    slabV X ((tDst t).val / 22) ((tDst t).val % 22) (pr (tAx t) c) r k = slabV X ((tSrc t).val / 22) ((tSrc t).val % 22) c r k := by
  have h1 : ∀ t : Fin 42, (tDst t).val / 22 = t.val / 14 ∧ (tDst t).val % 22 = 8 + t.val % 14
      ∧ (tSrc t).val / 22 = t.val / 14 ∧ (tSrc t).val % 22 = slotSrc (t.val % 14) := by decide +kernel
  obtain ⟨a1, a2, a3, a4⟩ := h1 t
  rw [a1, a2, a3, a4, slabV_land X _ _ (Nat.mod_lt _ (by decide))]
  congr 1
  unfold tAx
  rw [pr_mod, pr_pr]

/-- What a copy writes on the neighbour. -/
theorem land_write (c : Dev nD) (t : Fin 42) (e i j : ℕ) (h h' hs hs') (hi : i = (tSrc t).val) (hj : j = (tDst t).val) (he : e = rowsT t)
    (fd : S66x88x1024.Idx → F .bf16) :
    ∀ z ∈ slabSet (tDst t), (slabM e j h' hs').view.write (Elt F) fd ((slabM e i h hs).view.read (Elt F) (scrC X c)) Finset.univ z
      = scrC X (pr (tAx t) c) z := by
  intro z hz
  subst hi hj
  have hset : (slabM e (tDst t).val h' hs').view.set = slabSet (tDst t) := slabM_set' e _ h' hs' (tDst t).isLt (he.trans (rowsS_dst t).symm)
  rw [← hset] at hz
  obtain ⟨y, -, rfl⟩ := Finset.mem_map.mp hz
  refine (View.write_emb_of_mem _ _ (Finset.mem_univ y)).trans ?_
  refine Eq.trans ?_ (scrC_at X (pr (tAx t) c) e (tDst t).val h' (Shape.reshapeEquiv hs'.numel_eq y)).symm
  refine (scrC_at X c e (tSrc t).val h (Shape.reshapeEquiv hs.numel_eq y)).trans ?_
  exact (scr_land X t c _ _).symm

/-- A load of a block of the input. -/
theorem x_read (c : Dev nD) (p j e : ℕ) (hp : p < 3) (hj : j < 8) (he : e = rowsP p) (off : Fin 2 → ℕ) (hoff : off = ![rho p j c, 0]) (h) :
    (xM.access (Rect.unit (s := S2048x1024) off (S2e e).size h)).read (Elt F) (X c : S2048x1024.Idx → F .f32) = xRow X p j e c := by
  subst hoff he
  funext y
  show X c _ = X c _
  congr 1
  funext a
  have h0 : (y 0).val < rowsP p := (y 0).isLt
  have h1 : (y 1).val < 1024 := (y 1).isLt
  have hr := rho_le p hp j hj c
  match a with
  | 0 =>
    refine Fin.ext ((ValueKit.rect_emb_unit_val _ _ _ y 0).trans ?_)
    show rho p j c + (y 0).val = (rho p j c + (y 0).val) % 2048
    rw [Nat.mod_eq_of_lt (by omega)]
  | 1 =>
    refine Fin.ext ((ValueKit.rect_emb_unit_val _ _ _ y 1).trans ?_)
    show 0 + (y 1).val = (y 1).val % 1024
    rw [Nat.mod_eq_of_lt h1, Nat.zero_add]

/-! ## The values stored -/

/-- A vector of a slab's shape without its leading axis of one, and back. -/
theorem cast_in {α : Type} {e : ℕ} (v : (S2e e).Idx → α) (h : (S2e e).ShapeCasts (S1e e)) (y : (S1e e).Idx) (g : ℕ → ℕ → α)
    (hv : ∀ x, v x = g (x 0).val (x 1).val) : shapeCast (S1e e) v h y = g (y 1).val (y 2).val := by
  refine (shapeCast_apply v h y (fun | 0 => ⟨(y 1).val, (y 1).isLt⟩ | 1 => ⟨(y 2).val, (y 2).isLt⟩) ?_).trans (hv _)
  rw [Shape.rowMajor_val_three, Shape.rowMajor_val_two]
  have h0 := (y 0).isLt
  change (y 0).val < 1 at h0
  show (y 1).val * 1024 + (y 2).val = ((y 0).val * e + (y 1).val) * 1024 + (y 2).val
  rw [show (y 0).val = 0 by omega, Nat.zero_mul, Nat.zero_add]
theorem cast_out {α : Type} {e : ℕ} (v : (S1e e).Idx → α) (h : (S1e e).ShapeCasts (S2e e)) (y : (S2e e).Idx) (g : ℕ → ℕ → α)
    (hv : ∀ x, v x = g (x 1).val (x 2).val) : shapeCast (S2e e) v h y = g (y 0).val (y 1).val := by
  refine (shapeCast_apply v h y (fun | 0 => ⟨0, Nat.one_pos⟩ | 1 => ⟨(y 0).val, (y 0).isLt⟩ | 2 => ⟨(y 1).val, (y 1).isLt⟩) ?_).trans (hv _)
  rw [Shape.rowMajor_val_three, Shape.rowMajor_val_two]
  show ((0 * e + (y 0).val) * 1024 + (y 1).val) = (y 0).val * 1024 + (y 1).val
  rw [Nat.zero_mul, Nat.zero_add]

section Payloads

variable {e : ℕ} (hx : (S2e e).ShapeCasts (S2e e)) (hin : (S2e e).ShapeCasts (S1e e)) (hout : (S1e e).ShapeCasts (S2e e))
  (hb : FTy.bits .bf16 < FTy.bits .f32)

/-- A slab's values in single precision. -/
abbrev upV (s : FVec F (S1e e) .bf16) : FVec F (S2e e) .f32 := extf .f32 (shapeCast (S2e e) s hout : FVec F (S2e e) .bf16) hb
abbrev xV (v : FVec F (S2e e) .f32) : FVec F (S2e e) .f32 := shapeCast (S2e e) v hx
abbrev dnV (v : FVec F (S2e e) .f32) : FVec F (S2e e) .bf16 := truncf .bf16 v hb
abbrev inV (v : FVec F (S2e e) .bf16) : FVec F (S1e e) .bf16 := shapeCast (S1e e) v hin

variable (p c)

theorem upV_at (i : ℕ) (c : Dev nD) (y : (S2e e).Idx) : upV hout hb (slRow X i e c) y = up (slabV X (i / 22) (i % 22) c (y 0).val (y 1).val) :=
  congrArg (up (F := F)) (cast_out _ hout y (fun r k => slabV X (i / 22) (i % 22) c r k) fun _ => rfl)
theorem xV_at (p j : ℕ) (c : Dev nD) (y : (S2e e).Idx) : xV hx (xRow X p j e c) y = xb X p j c (y 0).val (y 1).val :=
  congrFun (shapeCast_self _ hx) y

/-- Slabs 0 to 3. -/
theorem pay0 (i p j : ℕ) (c : Dev nD) (hp : i / 22 = p) (hj : i % 22 = j) (hj' : j < 4) :
    inV hin (dnV hb (xV hx (xRow X p j e c))) = slRow X i e c := by
  funext y
  subst hp hj
  refine cast_in _ hin y (fun r k => slabV X (i / 22) (i % 22) c r k) fun z => ?_
  refine (congrArg (dn (F := F)) (xV_at X hx (i / 22) (i % 22) c z)).trans ?_
  generalize i % 22 = j at hj'
  interval_cases j <;> rfl
/-- Slabs 4 and 5. -/
theorem pay4 (i l p j : ℕ) (c : Dev nD) (hp : i / 22 = p) (hj : i % 22 = j) (hp' : l / 22 = p) (hl : l % 22 = j + 4) (hj' : j = 4 ∨ j = 5) :
    inV hin (dnV hb (addf (xV hx (xRow X p j e c)) (upV hout hb (slRow X l e c)))) = slRow X i e c := by
  funext y
  refine cast_in _ hin y (fun r k => slabV X (i / 22) (i % 22) c r k) fun z => ?_
  show dn (FloatOps.addf (xV hx (xRow X p j e c) z) (upV hout hb (slRow X l e c) z)) = _
  rw [xV_at, upV_at, hp, hj, hp', hl]
  rcases hj' with rfl | rfl <;> rfl
/-- Slab 6. -/
theorem pay6 (i l l' p : ℕ) (c : Dev nD) (hp : i / 22 = p) (hj : i % 22 = 6) (hp' : l / 22 = p) (hl : l % 22 = 10)
    (hp'' : l' / 22 = p) (hl' : l' % 22 = 12) :
    inV hin (dnV hb (addf (addf (xV hx (xRow X p 6 e c)) (upV hout hb (slRow X l e c))) (upV hout hb (slRow X l' e c)))) = slRow X i e c := by
  funext y
  refine cast_in _ hin y (fun r k => slabV X (i / 22) (i % 22) c r k) fun z => ?_
  show dn (FloatOps.addf (FloatOps.addf (xV hx (xRow X p 6 e c) z) (upV hout hb (slRow X l e c) z)) (upV hout hb (slRow X l' e c) z)) = _
  rw [xV_at, upV_at, upV_at, hp, hj, hp', hl, hp'', hl']
  rfl
/-- Slab 7. -/
theorem pay7 (i l l' l'' p : ℕ) (c : Dev nD) (hp : i / 22 = p) (hj : i % 22 = 7) (hp' : l / 22 = p) (hl : l % 22 = 11)
    (hp'' : l' / 22 = p) (hl' : l' % 22 = 13) (hp3 : l'' / 22 = p) (hl3 : l'' % 22 = 14) :
    inV hin (dnV hb (addf (addf (addf (xV hx (xRow X p 7 e c)) (upV hout hb (slRow X l e c))) (upV hout hb (slRow X l' e c)))
      (upV hout hb (slRow X l'' e c)))) = slRow X i e c := by
  funext y
  refine cast_in _ hin y (fun r k => slabV X (i / 22) (i % 22) c r k) fun z => ?_
  show dn (FloatOps.addf (FloatOps.addf (FloatOps.addf (xV hx (xRow X p 7 e c) z) (upV hout hb (slRow X l e c) z)) (upV hout hb (slRow X l' e c) z))
    (upV hout hb (slRow X l'' e c) z)) = _
  rw [xV_at, upV_at, upV_at, upV_at, hp, hj, hp', hl, hp'', hl', hp3, hl3]
  rfl

end Payloads

/-! ## The blocks of the result -/

/-- The rows slab `i` is about hold the result. -/
def OutAt (c : Dev nD) (i : Fin 66) (f : S2048x1024.Idx → F .f32) : Prop :=
  ∀ z : S2048x1024.Idx, rho (i.val / 22) (outTag (i.val % 22)) c ≤ (z 0).val → (z 0).val < rho (i.val / 22) (outTag (i.val % 22)) c + rowsS i →
    f z = outC X z

/-- A store of a block of the result: its own rows hold the result, and no other row's does not any more. -/
theorem out_write (c : Dev nD) (e i : ℕ) (hi : i < 66) (he : e = rowsS ⟨i, hi⟩) (hj : i % 22 = 7 ∨ 15 ≤ i % 22)
    (off : Fin 2 → ℕ) (hoff : off = ![rho (i / 22) (outTag (i % 22)) c, 0]) (h) (f : S2048x1024.Idx → F .f32)
    (w : (S2e e).Idx → F .f32) (hw : ∀ y, w y = up (slabV X (i / 22) (i % 22) c (y 0).val (y 1).val)) :
    OutAt X c ⟨i, hi⟩ ((oM.access (Rect.unit (s := S2048x1024) off (S2e e).size h)).write (Elt F) f w Finset.univ)
    ∧ ∀ i', OutAt X c i' f → OutAt X c i' ((oM.access (Rect.unit (s := S2048x1024) off (S2e e).size h)).write (Elt F) f w Finset.univ) := by
  subst he hoff
  have hin : ∀ y : (S2e (rowsS ⟨i, hi⟩)).Idx, (oM.access (Rect.unit (s := S2048x1024) _ (S2e (rowsS ⟨i, hi⟩)).size h)).write (Elt F) f w Finset.univ
      ((Rect.unit (s := S2048x1024) _ (S2e (rowsS ⟨i, hi⟩)).size h).emb y) = outC X ((Rect.unit (s := S2048x1024) _ (S2e (rowsS ⟨i, hi⟩)).size h).emb y) := by
    intro y
    refine (View.write_emb_of_mem _ _ (Finset.mem_univ y)).trans ((hw y).trans ?_)
    unfold outC
    rw [show (((Rect.unit (s := S2048x1024) _ (S2e (rowsS ⟨i, hi⟩)).size h).emb y 0).val : ℕ) = rho (i / 22) (outTag (i % 22)) c + (y 0).val from
        ValueKit.rect_emb_unit_val (s := S2048x1024) ![rho (i / 22) (outTag (i % 22)) c, 0] _ h y 0,
      show (((Rect.unit (s := S2048x1024) _ (S2e (rowsS ⟨i, hi⟩)).size h).emb y 1).val : ℕ) = (y 1).val from
        (ValueKit.rect_emb_unit_val (s := S2048x1024) ![rho (i / 22) (outTag (i % 22)) c, 0] _ h y 1).trans (Nat.zero_add _)]
    exact (out_slab X (i / 22) (by omega) (i % 22) (by omega) c _ _ (y 0).isLt).symm
  have hmem : ∀ z : S2048x1024.Idx, z ∈ (Rect.unit (s := S2048x1024) _ (S2e (rowsS ⟨i, hi⟩)).size h).set →
      (oM.access (Rect.unit (s := S2048x1024) _ (S2e (rowsS ⟨i, hi⟩)).size h)).write (Elt F) f w Finset.univ z = outC X z := by
    intro z hz
    rw [← Rect.map_emb_univ] at hz
    obtain ⟨y, -, rfl⟩ := Finset.mem_map.mp hz
    exact hin y
  refine ⟨fun z h1 h2 => hmem z ((Rect.mem_set_unit).mpr fun a => ?_), fun i' hf z h1 h2 => ?_⟩
  · match a with
    | 0 => exact ⟨h1, h2⟩
    | 1 => exact ⟨Nat.zero_le _, lt_of_lt_of_eq (z 1).isLt (Nat.zero_add _).symm⟩
  · by_cases hz : z ∈ (Rect.unit (s := S2048x1024) _ (S2e (rowsS ⟨i, hi⟩)).size h).set
    · exact hmem z hz
    · refine (View.write_of_not_mem _ _ _ fun hn => hz ?_).trans (hf z h1 h2)
      obtain ⟨y, -, hy⟩ := Finset.mem_map.mp hn
      rw [← Rect.map_emb_univ]
      exact Finset.mem_map.mpr ⟨y, Finset.mem_univ _, hy⟩

end Cert.KernelIdeal.Hand

end
-- ==== Proof.State.lean ====
/-
  What a device holds between two operations of the kernel.

  The state is told by five numbers and a list: how many slabs the kernel has stored, how many transfers it has started, how
  many arrivals and how many ends of its own transfers it has waited for, and the slabs whose block of the result is written.
-/
module

public import proofs.«01_k».proof.Proof.Slabs

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- One summand changed. -/
theorem bigSep_upd {ι : Type} [Fintype ι] [DecidableEq ι] (i : ι) (Φ Φ' : ι → sProp 𝕄) (h : ∀ j, j ≠ i → Φ j = Φ' j) :
    bigSep Finset.univ Φ ⊢ iprop(Φ i ∗ (Φ' i -∗ bigSep Finset.univ Φ')) := by
  rw [bigSep_univ_at Φ i, bigSep_univ_at Φ' i, bigSep_congr (s := Finset.univ.erase i) fun j hj => h j (Finset.ne_of_mem_erase hj)]
  iintro ⟨H, R⟩
  isplitl [H]; · iexact H
  iintro H'
  isplitl [H'] <;> iassumption

theorem bigSep_fin3 (Φ : Fin 3 → sProp 𝕄) : bigSep Finset.univ Φ = iprop(Φ 0 ∗ Φ 1 ∗ Φ 2) := by
  rw [bigSep_univ_eq_bigSepL [0, 1, 2] (by decide) (by decide), bigSepL_cons_cons, bigSepL_cons_cons, bigSepL_singleton]
  rfl

/-! ## Which slabs are written, which pieces of them are with a transfer -/

/-- Slab `i` is written, `s` slabs stored and `r` arrivals waited for. -/
def filledB (s r : ℕ) (i : Fin 66) : Bool := if own i then decide (iOrd i < s) else decide (rOrd (inT i) < r)
/-- The `n`-th reader of slab `i` is under way, `k` transfers started and `d` waited for. -/
def flyB (k d : ℕ) (i : Fin 66) (n : Fin 3) : Bool := decide (∃ t : Fin 42, tSrc t = i ∧ tRank t = n ∧ sOrd t < k ∧ d ≤ sOrd t)

theorem rank_inj : ∀ t u, tSrc t = tSrc u → tRank t = tRank u → t = u := by decide +kernel

theorem fly_send_other (k d : ℕ) (t : Fin 42) (hk : sOrd t = k) (i : Fin 66) (n : Fin 3) (hne : ¬ (i = tSrc t ∧ n = tRank t)) :
    flyB k d i n = flyB (k + 1) d i n := by
  unfold flyB
  refine decide_eq_decide.mpr ⟨fun ⟨u, h1, h2, h3, h4⟩ => ⟨u, h1, h2, by omega, h4⟩, fun ⟨u, h1, h2, h3, h4⟩ => ⟨u, h1, h2, ?_, h4⟩⟩
  by_contra h
  obtain rfl := sOrd_inj u t (by omega)
  exact hne ⟨h1.symm, h2.symm⟩
theorem fly_send_before (k d : ℕ) (t : Fin 42) (hk : sOrd t = k) : flyB k d (tSrc t) (tRank t) = false := by
  unfold flyB
  refine decide_eq_false fun ⟨u, h1, h2, h3, h4⟩ => ?_
  obtain rfl := rank_inj u t h1 h2
  omega
theorem fly_send_after (k d : ℕ) (t : Fin 42) (hk : sOrd t = k) (hd : d ≤ k) : flyB (k + 1) d (tSrc t) (tRank t) = true := by
  unfold flyB
  exact decide_eq_true ⟨t, rfl, rfl, by omega, by omega⟩
theorem fly_done_other (k d : ℕ) (t : Fin 42) (hd : sOrd t = d) (i : Fin 66) (n : Fin 3) (hne : ¬ (i = tSrc t ∧ n = tRank t)) :
    flyB k d i n = flyB k (d + 1) i n := by
  unfold flyB
  refine decide_eq_decide.mpr ⟨fun ⟨u, h1, h2, h3, h4⟩ => ⟨u, h1, h2, h3, ?_⟩, fun ⟨u, h1, h2, h3, h4⟩ => ⟨u, h1, h2, h3, by omega⟩⟩
  by_contra h
  obtain rfl := sOrd_inj u t (by omega)
  exact hne ⟨h1.symm, h2.symm⟩
theorem fly_done_before (k d : ℕ) (t : Fin 42) (hd : sOrd t = d) (hk : d < k) : flyB k d (tSrc t) (tRank t) = true := by
  unfold flyB
  exact decide_eq_true ⟨t, rfl, rfl, by omega, by omega⟩
theorem fly_done_after (k d : ℕ) (t : Fin 42) (hd : sOrd t = d) : flyB k (d + 1) (tSrc t) (tRank t) = false := by
  unfold flyB
  refine decide_eq_false fun ⟨u, h1, h2, h3, h4⟩ => ?_
  obtain rfl := rank_inj u t h1 h2
  omega

/-! ## The state -/

section State

variable (X : Dev nD → S2048x1024.Idx → F .f32) (K : GSem nD τ sig → ℕ) (c : Dev nD)

/-- The invariants of the cells of transfer `t`, with their rounds reached. -/
def ctx1 (t : Fin 42) : sProp 𝕄 :=
  iprop(cellInv ER (kRd X) (K (sendCell t c)) (sendCell t c)
    ∗ cellInv ER (kRd X) (K (recvCell t c)) (recvCell t c)
    ∗ cellInv ER (kRd X) (K (recvCell t (pr (tAx t) c))) (recvCell t (pr (tAx t) c))
    ∗ reached ER (sendCell t c) 0 ∗ reached ER (recvCell t (pr (tAx t) c)) 0)
instance ctx1_persistent (t : Fin 42) : BI.Persistent (ctx1 X K c t) := by unfold ctx1; infer_instance
/-- Of all the transfers, and the levels. -/
def ctx : sProp 𝕄 := iprop((bigSep Finset.univ fun t : Fin 42 => ctx1 X K c t) ∗ levAts L lv)
instance ctx_persistent : BI.Persistent (ctx X K c) := by unfold ctx; infer_instance

/-- The sender's side of transfer `t`: waited for, under way, or not started. -/
def sndSt (k d : ℕ) (t : Fin 42) : sProp 𝕄 :=
  if sOrd t < d then atPos ER (sendCell t c) 1 ∅ 0
  else if sOrd t < k then iprop(atPos ER (sendCell t c) 0 ∅ 0 ∗ cred (tallyAt (sendCell t c) () (NT t)))
  else iprop(atPos ER (sendCell t c) 0 ∅ 0 ∗ dutyTok ER (sendCell t c) 0 (0 : Fin 3) ∗ dutyTok ER (recvCell t (pr (tAx t) c)) 0 (0 : Fin 3)
    ∗ ∃ f, slabPt (pr (tAx t) c) (tDst t) fullShare f)
/-- The receiver's side: waited for or not. -/
def rcvSt (r : ℕ) (t : Fin 42) : sProp 𝕄 :=
  if rOrd t < r then atPos ER (recvCell t c) 1 ∅ 0 else iprop(atPos ER (recvCell t c) 0 ∅ 0 ∗ cred (tallyAt (recvCell t c) () (NT t)))

/-- The piece of slab `i` its `n`-th reader takes. -/
def piece (k d : ℕ) (i : Fin 66) (n : Fin 3) : sProp 𝕄 :=
  if flyB k d i n then iprop(emp) else slabPt c i (keepSh n.val).left (slabF X c)
/-- A written slab. -/
def slabFull (k d : ℕ) (i : Fin 66) : sProp 𝕄 :=
  iprop(slabPt c i (keepSh 3) (slabF X c) ∗ bigSep Finset.univ fun n : Fin 3 => piece X c k d i n)
def slabSt (s k r d : ℕ) (i : Fin 66) : sProp 𝕄 :=
  if filledB s r i then slabFull X c k d i else if own i then iprop(∃ f, slabPt c i fullShare f) else iprop(emp)

abbrev xPt : sProp 𝕄 := (c : Thread nD τ).loc cc0_stg0_0 ↦{fullShare} (X c : Buf (Elt F) ((c : Thread nD τ).loc cc0_stg0_0))
/-- The result's buffer, the blocks of the slabs of `o` written. -/
def outSt (o : List (Fin 66)) : sProp 𝕄 :=
  iprop(∃ f : Buf (Elt F) ((c : Thread nD τ).loc cc0_stg1_0), ⌜∀ i ∈ o, OutAt X c i f⌝ ∗ (c : Thread nD τ).loc cc0_stg1_0 ↦{fullShare} f)

def St (s k r d : ℕ) (o : List (Fin 66)) : sProp 𝕄 :=
  iprop(ctx X K c ∗ (∃ W, owes (c : Thread nD τ) (Ow c k) W) ∗ (bigSep Finset.univ fun t => sndSt c k d t) ∗ (bigSep Finset.univ fun t => rcvSt c r t)
    ∗ (bigSep Finset.univ fun i => slabSt X c s k r d i) ∗ xPt X c ∗ outSt X c o)

/-! ## The cells' records -/

theorem ctx_at (t : Fin 42) : ctx X K c ⊢ ctx1 X K c t := by
  unfold ctx
  iintro ⟨H, -⟩
  iapply (show (bigSep Finset.univ fun t : Fin 42 => ctx1 X K c t) ⊢ ctx1 X K c t from bigSep_elim (Finset.mem_univ t))
  iexact H
theorem ctx_lev : ctx X K c ⊢ levAts L lv := by
  unfold ctx
  iintro ⟨-, H⟩
  iexact H

/-! ## Slabs taken apart -/

variable {X c}

theorem slab_split (i : Fin 66) (f : Buf (Elt F) ((c : Thread nD τ).loc cc0_scratch0)) :
    (slabPt c i fullShare f : sProp 𝕄) ⊣⊢ iprop(slabPt c i (keepSh 3) f ∗ bigSep Finset.univ fun n : Fin 3 => slabPt c i (keepSh n.val).left f) := by
  have h (n : ℕ) : (slabPt c i (keepSh n) f : sProp 𝕄) ⊣⊢ iprop(slabPt c i (keepSh n).left f ∗ slabPt c i (keepSh (n + 1)) f) :=
    pointsTo_share (PosShare.mem_left_op_right (keepSh n))
  have h0 : (slabPt c i fullShare f : sProp 𝕄) ⊣⊢ iprop(slabPt c i (keepSh (0 : Fin 3).val).left f ∗ slabPt c i (keepSh 1) f) := h 0
  have h1 : (slabPt c i (keepSh 1) f : sProp 𝕄) ⊣⊢ iprop(slabPt c i (keepSh (1 : Fin 3).val).left f ∗ slabPt c i (keepSh 2) f) := h 1
  have h2 : (slabPt c i (keepSh 2) f : sProp 𝕄) ⊣⊢ iprop(slabPt c i (keepSh (2 : Fin 3).val).left f ∗ slabPt c i (keepSh 3) f) := h 2
  rw [bigSep_fin3]
  constructor
  · iintro H
    ihave H := h0.1 $$ H; icases H with ⟨H0, H⟩
    ihave H := h1.1 $$ H; icases H with ⟨H1, H⟩
    ihave H := h2.1 $$ H; icases H with ⟨H2, H⟩
    isplitl [H]; · iexact H
    isplitl [H0]; · iexact H0
    isplitl [H1] <;> iassumption
  · iintro ⟨H, H0, H1, H2⟩
    iapply h0.2
    isplitl [H0]; · iexact H0
    iapply h1.2
    isplitl [H1]; · iexact H1
    iapply h2.2
    isplitl [H2] <;> iassumption

/-- A slab just written, none of its readers started. -/
theorem slabFull_intro (k d : ℕ) (i : Fin 66) (hf : ∀ n, flyB k d i n = false) : slabPt c i fullShare (slabF X c) ⊢ slabFull X c k d i := by
  unfold slabFull
  rw [bigSep_congr (s := Finset.univ) (Ψ := fun n : Fin 3 => slabPt c i (keepSh n.val).left (slabF X c))
    fun n _ => by unfold piece; rw [hf n, if_neg (by decide)]]
  exact (slab_split i _).1
theorem slabFull_elim (k d : ℕ) (i : Fin 66) (hf : ∀ n, flyB k d i n = false) : slabFull X c k d i ⊢ slabPt c i fullShare (slabF X c) := by
  unfold slabFull
  rw [bigSep_congr (s := Finset.univ) (Ψ := fun n : Fin 3 => slabPt c i (keepSh n.val).left (slabF X c))
    fun n _ => by unfold piece; rw [hf n, if_neg (by decide)]]
  exact (slab_split i _).2

variable (X c)

/-! ## How the summands change -/

theorem snd_send_other (k d : ℕ) (t : Fin 42) (hk : sOrd t = k) (u : Fin 42) (hu : u ≠ t) : sndSt (F := F) c k d u = sndSt c (k + 1) d u := by
  have hne : sOrd u ≠ k := fun h => hu (sOrd_inj u t (h.trans hk.symm))
  unfold sndSt
  by_cases h : sOrd u < k
  · rw [if_pos h, if_pos (show sOrd u < k + 1 by omega)]
  · rw [if_neg h, if_neg (show ¬ sOrd u < k + 1 by omega)]
theorem snd_done_other (k d : ℕ) (t : Fin 42) (hd : sOrd t = d) (u : Fin 42) (hu : u ≠ t) : sndSt (F := F) c k d u = sndSt c k (d + 1) u := by
  have hne : sOrd u ≠ d := fun h => hu (sOrd_inj u t (h.trans hd.symm))
  unfold sndSt
  by_cases h : sOrd u < d
  · rw [if_pos h, if_pos (show sOrd u < d + 1 by omega)]
  · rw [if_neg h, if_neg (show ¬ sOrd u < d + 1 by omega)]
theorem rcv_other (r : ℕ) (t : Fin 42) (hr : rOrd t = r) (u : Fin 42) (hu : u ≠ t) : rcvSt (F := F) c r u = rcvSt c (r + 1) u := by
  have hne : rOrd u ≠ r := fun h => hu (rOrd_inj u t (h.trans hr.symm))
  unfold rcvSt
  by_cases h : rOrd u < r
  · rw [if_pos h, if_pos (show rOrd u < r + 1 by omega)]
  · rw [if_neg h, if_neg (show ¬ rOrd u < r + 1 by omega)]

theorem slabSt_congr (s k r d s' k' r' d' : ℕ) (i : Fin 66) (h1 : filledB s r i = filledB s' r' i) (h2 : ∀ n, flyB k d i n = flyB k' d' i n) :
    slabSt X c s k r d i = slabSt X c s' k' r' d' i := by
  unfold slabSt slabFull piece
  rw [h1]
  simp only [h2]

theorem filled_recv_other (s r : ℕ) (t : Fin 42) (hr : rOrd t = r) (i : Fin 66) (hi : i ≠ tDst t) : filledB s r i = filledB s (r + 1) i := by
  unfold filledB
  by_cases ho : own i = true
  · rw [if_pos ho, if_pos ho]
  · rw [if_neg ho, if_neg ho]
    have hne : rOrd (inT i) ≠ r := fun h => hi (by
      rw [← dst_inT i (by simpa using ho), rOrd_inj (inT i) t (h.trans hr.symm)])
    exact decide_eq_decide.mpr (by omega)
theorem filled_store_other (s r : ℕ) (i : Fin 66) (hs : iOrd i = s) (ho : own i = true) (j : Fin 66) (hj : j ≠ i) : filledB s r j = filledB (s + 1) r j := by
  unfold filledB
  by_cases ho' : own j = true
  · rw [if_pos ho', if_pos ho']
    have hne : iOrd j ≠ s := fun h => hj (iOrd_inj j i (h.trans hs.symm) (by have := (own_iff j).mp ho'; omega))
    exact decide_eq_decide.mpr (by omega)
  · rw [if_neg ho', if_neg ho']
theorem filled_dst (s r : ℕ) (t : Fin 42) (hr : rOrd t = r) : filledB s r (tDst t) = false ∧ filledB s (r + 1) (tDst t) = true := by
  unfold filledB
  rw [own_dst, if_neg (by decide), if_neg (by decide), inT_dst]
  exact ⟨decide_eq_false (by omega), decide_eq_true (by omega)⟩
theorem filled_own (s r : ℕ) (i : Fin 66) (hs : iOrd i = s) (ho : own i = true) : filledB s r i = false ∧ filledB (s + 1) r i = true := by
  unfold filledB
  rw [if_pos ho, if_pos ho]
  exact ⟨decide_eq_false (by omega), decide_eq_true (by omega)⟩

end State

end Cert.KernelIdeal.Hand

end
-- ==== Proof.Steps.lean ====
/-
  One lemma per kind of operation of the kernel: from the state before it to the state after it.
-/
module

public import proofs.«01_k».proof.Proof.State

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
/-- The programs of the body. -/
abbrev PB (F : FTy → Type) [FloatOps F] := Prog (TpuEff nD τ sig (Elt F) Λ₀ .tc) PUnit.{1}

variable (F) in
/-- Its postconditions. -/
abbrev QB := PUnit.{1} → sProp 𝕄

/-- The weakest precondition the body is run in. -/
abbrev wpB (c : Dev nD) (p : Prog (TpuEff nD τ sig (Elt F) Λ₀ .tc) PUnit.{1}) (Q : PUnit.{1} → sProp 𝕄) : sProp 𝕄 :=
  wp frame (wpE (defs₀ (F := F)) 𝒱₀ (c : Thread nD τ) none) Set.univ p Q

/-- From the state told by `s`, `k`, `r`, `d` and `o`, the program runs to `Q`. -/
@[irreducible] def Run (X : Dev nD → S2048x1024.Idx → F .f32) (K : GSem nD τ sig → ℕ) (c : Dev nD) (s k r d : ℕ) (o : List (Fin 66)) (p : PB F)
    (Q : QB F) : Prop := St X K c s k r d o ⊢ wpB c p Q

/-- Semaphore `n` of an array of the kernel's. -/
abbrev semAt (a : DmaSems sig S42) (n : ℕ) (h : ∀ b, (![n] : Fin 1 → ℕ) b + S1.size b ≤ S42.size b) (hs : S1.Squeezes S_) : DmaSem sig :=
  (SemArray.squeeze (SemArray.slice a (Rect.unit (s := S42) ![n] S1.size h)) S_ hs).sem

theorem semIx (n : ℕ) (h : ∀ b, (![n] : Fin 1 → ℕ) b + S1.size b ≤ S42.size b) (y : S1.Idx) :
    (S42.rowMajor ((Rect.unit (s := S42) ![n] S1.size h).emb y)).val = n := by
  have hy : (y 0).val < 1 := (y 0).isLt
  refine (Shape.rowMajor_val_one (d := S42.size) _).trans ?_
  have h0 := ValueKit.rect_emb_unit_val (s := S42) ![n] S1.size h y 0
  rw [Matrix.cons_val_zero] at h0
  omega

theorem semAt_send (n : ℕ) (hn : n < 42) (h hs) : semAt cc0_scratch1 n h hs = sendS ⟨n, hn⟩ :=
  Fin.ext (congrArg (2 + ·) (semIx n h _))
theorem semAt_recv (n : ℕ) (hn : n < 42) (h hs) : semAt cc0_scratch2 n h hs = recvS ⟨n, hn⟩ :=
  Fin.ext (congrArg (44 + ·) (semIx n h _))

section Steps

variable {X : Dev nD → S2048x1024.Idx → F .f32} {K : GSem nD τ sig → ℕ} {c : Dev nD} {Q : QB F}
variable {s k r d : ℕ} {o : List (Fin 66)}

/-- A load of a block of the input. -/
theorem step_ldx {e : ℕ} {off : Dev nD → Fin 2 → ℕ} {h hl} {kont : ((S2e e).Idx → Elt F .f32) → PB F} (p j : ℕ) (hp : p < 3) (hj : j < 8) (he : e = rowsP p)
    (hoff : ∀ c, off c = ![rho p j c, 0]) (hk : Run X K c s k r d o (kont (xRow X p j e c)) Q) :
    Run X K c s k r d o (.op (.load xM (Rect.unit (s := S2048x1024) (off c) (S2e e).size h).toLoadRect hl) kont) Q := by
  unfold Run at hk ⊢
  rw [← x_read X c p j e hp hj he (off c) (hoff c) h] at hk
  unfold St at hk ⊢
  iintro ⟨HC, HO, HS, HR, HB, Hx, Hout⟩
  iapply (wp_load_rect 𝒱₀ (c : Thread nD τ) none Set.univ (m := xM) (S := Finset.univ) (Finset.subset_univ _)) $$ [Hx]
  · iexact Hx
  iintro Hx
  iapply hk
  isplitl [HC]; · iexact HC
  isplitl [HO]; · iexact HO
  isplitl [HS]; · iexact HS
  isplitl [HR]; · iexact HR
  isplitl [HB]; · iexact HB
  isplitl [Hx] <;> iassumption

/-- A load of the result's buffer whose value is not used. -/
theorem step_ldo {e : ℕ} {off : Fin 2 → ℕ} {h hl} {kont : ((S2e e).Idx → Elt F .f32) → PB F}
    (hk : ∀ v, Run X K c s k r d o (kont v) Q) :
    Run X K c s k r d o (.op (.load oM (Rect.unit (s := S2048x1024) off (S2e e).size h).toLoadRect hl) kont) Q := by
  unfold Run at hk ⊢
  unfold St outSt at hk ⊢
  iintro ⟨HC, HO, HS, HR, HB, Hx, ⟨%f, ⟨%Hf, Ho⟩⟩⟩
  iapply (wp_load_rect 𝒱₀ (c : Thread nD τ) none Set.univ (m := oM) (S := Finset.univ) (Finset.subset_univ _)) $$ [Ho]
  · iexact Ho
  iintro Ho
  iapply (hk _)
  isplitl [HC]; · iexact HC
  isplitl [HO]; · iexact HO
  isplitl [HS]; · iexact HS
  isplitl [HR]; · iexact HR
  isplitl [HB]; · iexact HB
  isplitl [Hx]; · iexact Hx
  iexists f
  isplitr; · ipureintro; exact Hf
  iexact Ho

/-- A store of a block of the result. -/
theorem step_sto {e : ℕ} {off : Dev nD → Fin 2 → ℕ} {h hx hm} {kont : PUnit.{1} → PB F} {w : (S2e e).Idx → F .f32} (i : ℕ) (hi : i < 66)
    (he : e = rowsS ⟨i, hi⟩) (hj : i % 22 = 7 ∨ 15 ≤ i % 22) (hoff : ∀ c, off c = ![rho (i / 22) (outTag (i % 22)) c, 0])
    (hw : ∀ y, w y = up (slabV X (i / 22) (i % 22) c (y 0).val (y 1).val))
    (hk : Run X K c s k r d (⟨i, hi⟩ :: o) (kont ⟨⟩) Q) :
    Run X K c s k r d o (.op (.store oM (Rect.unit (s := S2048x1024) (off c) (S2e e).size h) w Finset.univ hx hm) kont) Q := by
  unfold Run at hk ⊢
  unfold St outSt at hk ⊢
  iintro ⟨HC, HO, HS, HR, HB, Hx, ⟨%f, ⟨%Hf, Ho⟩⟩⟩
  have hout := out_write X c e i hi he hj (off c) (hoff c) h f w hw
  iapply (wp_store 𝒱₀ (c : Thread nD τ) none Set.univ (m := oM) (S := Finset.univ) (Finset.subset_univ _)) $$ [Ho]
  · iexact Ho
  iintro Ho
  iapply hk
  isplitl [HC]; · iexact HC
  isplitl [HO]; · iexact HO
  isplitl [HS]; · iexact HS
  isplitl [HR]; · iexact HR
  isplitl [HB]; · iexact HB
  isplitl [Hx]; · iexact Hx
  iexists _
  isplitr
  · ipureintro
    intro i' hi'
    rcases List.mem_cons.mp hi' with rfl | hi'
    · exact hout.1
    · exact hout.2 i' (Hf i' hi')
  iexact Ho

/-- A load of a slab not yet written, whose value is not used. -/
theorem step_ldj {e i : ℕ} {h hl} {kont : ((S1e e).Idx → Elt F .bf16) → PB F} (hi : i < 66) (he : e = rowsS ⟨i, hi⟩)
    (ho : own ⟨i, hi⟩ = true) (hf : filledB s r ⟨i, hi⟩ = false) (hk : ∀ v, Run X K c s k r d o (kont v) Q) :
    Run X K c s k r d o (.op (.load scrM (slabR e i h).toLoadRect hl) kont) Q := by
  unfold Run at hk ⊢
  have hs : slabSt X c s k r d ⟨i, hi⟩ = iprop(∃ f, slabPt c ⟨i, hi⟩ fullShare f) := by
    unfold slabSt; rw [hf, if_neg (by decide), if_pos ho]
  unfold St at hk ⊢
  iintro ⟨HC, HO, HS, HR, HB, Hx, Hout⟩
  ihave H := (bigSep_upd ⟨i, hi⟩ (slabSt X c s k r d) (slabSt X c s k r d) fun _ _ => rfl) $$ HB
  icases H with ⟨H, HB⟩
  ihave H := (Entails.of_eq hs) $$ H
  icases H with ⟨%f, H⟩
  iapply (wp_load_rect 𝒱₀ (c : Thread nD τ) none Set.univ (m := scrM) (r := slabR e i h) (S := slabSet ⟨i, hi⟩) (access_set e i h hi he).le) $$ [H]
  · iexact H
  iintro H
  iapply (hk _)
  isplitl [HC]; · iexact HC
  isplitl [HO]; · iexact HO
  isplitl [HS]; · iexact HS
  isplitl [HR]; · iexact HR
  isplitl [HB H]
  · iapply HB
    iapply (Entails.of_eq hs.symm)
    iexists f; iexact H
  isplitl [Hx] <;> iassumption

/-- A load of a written slab. -/
theorem step_lds {e i : ℕ} {h hl} {kont : ((S1e e).Idx → Elt F .bf16) → PB F} (hi : i < 66) (he : e = rowsS ⟨i, hi⟩)
    (hf : filledB s r ⟨i, hi⟩ = true) (hk : Run X K c s k r d o (kont (slRow X i e c)) Q) :
    Run X K c s k r d o (.op (.load scrM (slabR e i h).toLoadRect hl) kont) Q := by
  unfold Run at hk ⊢
  have hs : slabSt X c s k r d ⟨i, hi⟩ = slabFull X c k d ⟨i, hi⟩ := by
    unfold slabSt; rw [hf, if_pos rfl]
  rw [← slab_read X c e i h] at hk
  unfold St at hk ⊢
  iintro ⟨HC, HO, HS, HR, HB, Hx, Hout⟩
  ihave H := (bigSep_upd ⟨i, hi⟩ (slabSt X c s k r d) (slabSt X c s k r d) fun _ _ => rfl) $$ HB
  icases H with ⟨H, HB⟩
  ihave H := (Entails.of_eq (hs.trans (by unfold slabFull; rfl))) $$ H
  icases H with ⟨H, Hp⟩
  iapply (wp_load_rect 𝒱₀ (c : Thread nD τ) none Set.univ (m := scrM) (r := slabR e i h) (S := slabSet ⟨i, hi⟩) (access_set e i h hi he).le) $$ [H]
  · iexact H
  iintro H
  iapply hk
  isplitl [HC]; · iexact HC
  isplitl [HO]; · iexact HO
  isplitl [HS]; · iexact HS
  isplitl [HR]; · iexact HR
  isplitl [HB H Hp]
  · iapply HB
    iapply (Entails.of_eq (hs.trans (by unfold slabFull; rfl)).symm)
    isplitl [H] <;> iassumption
  isplitl [Hx] <;> iassumption

/-- A store of a slab. -/
theorem step_sts {e i : ℕ} {h hx hm} {kont : PUnit.{1} → PB F} {w : (S1e e).Idx → F .bf16} (hi : i < 66) (he : e = rowsS ⟨i, hi⟩)
    (ho : own ⟨i, hi⟩ = true) (hs : iOrd ⟨i, hi⟩ = s) (hf : ∀ n, flyB k d ⟨i, hi⟩ n = false) (hw : w = slRow X i e c)
    (hk : Run X K c (iOrd ⟨i, hi⟩ + 1) k r d o (kont ⟨⟩) Q) :
    Run X K c s k r d o (.op (.store scrM (slabR e i h) w Finset.univ hx hm) kont) Q := by
  unfold Run at hk ⊢
  rw [hs] at hk
  have h1 : slabSt X c s k r d ⟨i, hi⟩ = iprop(∃ f, slabPt c ⟨i, hi⟩ fullShare f) := by
    unfold slabSt; rw [(filled_own s r _ hs ho).1, if_neg (by decide), if_pos ho]
  have h2 : slabSt X c (s + 1) k r d ⟨i, hi⟩ = slabFull X c k d ⟨i, hi⟩ := by
    unfold slabSt; rw [(filled_own s r _ hs ho).2, if_pos rfl]
  unfold St at hk ⊢
  iintro ⟨HC, HO, HS, HR, HB, Hx, Hout⟩
  ihave H := (bigSep_upd ⟨i, hi⟩ (slabSt X c s k r d) (slabSt X c (s + 1) k r d)
    fun j hj => slabSt_congr X c _ _ _ _ _ _ _ _ j (filled_store_other s r _ hs ho j hj) fun _ => rfl) $$ HB
  icases H with ⟨H, HB⟩
  ihave H := (Entails.of_eq h1) $$ H
  icases H with ⟨%f, H⟩
  iapply (wp_store 𝒱₀ (c : Thread nD τ) none Set.univ (m := scrM) (r := slabR e i h) (S := slabSet ⟨i, hi⟩) (access_set e i h hi he).le) $$ [H]
  · iexact H
  iintro H
  iapply hk
  isplitl [HC]; · iexact HC
  isplitl [HO]; · iexact HO
  isplitl [HS]; · iexact HS
  isplitl [HR]; · iexact HR
  isplitl [HB H]
  · iapply HB
    iapply (Entails.of_eq h2.symm)
    iapply (slabFull_intro k d ⟨i, hi⟩ hf)
    iapply (Entails.of_eq (pointsTo_congr (slab_write X c e i h hi he f w hw))) $$ H
  isplitl [Hx] <;> iassumption

/-- The wait for an arrival. -/
theorem step_recv {e e' n i j : ℕ} {h hq hs hs' ha hss hd1 hd2} {kont : PUnit.{1} → PB F} (hn : n < 42) (hr : rOrd ⟨n, hn⟩ = r) (hk : sOrd ⟨n, hn⟩ < k)
    (he : e = rowsT ⟨n, hn⟩) (hf : ∀ m, flyB k d (tDst ⟨n, hn⟩) m = false)
    (hk' : Run X K c s k (rOrd ⟨n, hn⟩ + 1) d o (kont ⟨⟩) Q) :
    Run X K c s k r d o (.op (.waitDma2 (semAt cc0_scratch2 n ha hss) (slabM e' i h hs) (slabM e j hq hs') hd1 hd2) kont) Q := by
  unfold Run at hk' ⊢
  rw [hr] at hk'
  rw [semAt_recv n hn]
  generalize (⟨n, hn⟩ : Fin 42) = t at *
  have h1 : slabSt X c s k (r + 1) d (tDst t) = slabFull X c k d (tDst t) := by
    unfold slabSt; rw [(filled_dst s r t hr).2, if_pos rfl]
  have h2 : rcvSt (F := F) c r t = iprop(atPos ER (recvCell t c) 0 ∅ 0 ∗ cred (tallyAt (recvCell t c) () (NT t))) := by
    unfold rcvSt; rw [if_neg (by omega)]
  have h3 : rcvSt (F := F) c (r + 1) t = atPos ER (recvCell t c) 1 ∅ 0 := by
    unfold rcvSt; rw [if_pos (by omega)]
  have hexp : 0 + (slabM e j hq hs').view.dmaCredit = (kRd (F := F) X).expect (recvCell t c) 0 := by
    rw [expect_recv, slabM_credit, Nat.zero_add, he]; rfl
  have hcr : NT t = (slabM e j hq hs').view.dmaCredit := by rw [slabM_credit, he]; rfl
  unfold St at hk' ⊢
  iintro ⟨#HC, ⟨%W, HO⟩, HS, HR, HB, Hx, Hout⟩
  ihave H := (bigSep_upd (tDst t) (slabSt X c s k r d) (slabSt X c s k (r + 1) d)
    fun j hj => slabSt_congr X c _ _ _ _ _ _ _ _ j (filled_recv_other s r t hr j hj) fun _ => rfl) $$ HB
  icases H with ⟨-, HB⟩
  ihave H := (bigSep_upd t (rcvSt c r) (rcvSt c (r + 1)) (rcv_other c r t hr)) $$ HR
  icases H with ⟨H, HR⟩
  ihave H := (Entails.of_eq h2) $$ H
  icases H with ⟨Hat, Hcr⟩
  ihave H1 := (ctx_at X K c t) $$ HC
  unfold ctx1
  icases H1 with ⟨-, #HI, -, -, -⟩
  iapply (Rounds.wp_wait_rest_token 𝒱₀ ER (kRd X) (c : Thread nD τ) none (κ := K (recvCell t c))
      (wpE_waitDma2_eq 𝒱₀ (c : Thread nD τ) none Set.univ) (Set.mem_univ _) () (O := Ow c k) (W := W) (R := 0) (m := 0) (T := ∅) hexp) $$ [Hcr HO Hat]
  · isplitr; · iexact HI
    isplitl [Hcr]; · rw [hcr]; iexact Hcr
    isplitl [HO]; · iexact HO
    isplitr
    · iapply (mayWait c (.dma (recvS t)) k (by rw [lv_recv]; omega))
      iapply (ctx_lev X K c); iexact HC
    iexact Hat
  iintro ⟨HO, Hat, -, Hpay⟩
  ihave Hp := (Entails.of_eq ((rest_recv X c t).trans (by unfold recvPay; rfl))) $$ Hpay
  iapply hk'
  isplitr; · iexact HC
  isplitl [HO]; · iexists _; iexact HO
  isplitl [HS]; · iexact HS
  isplitl [HR Hat]
  · iapply HR
    iapply (Entails.of_eq h3.symm); iexact Hat
  isplitl [HB Hp]
  · iapply HB
    iapply (Entails.of_eq h1.symm)
    iapply (slabFull_intro k d (tDst t) hf); iexact Hp
  isplitl [Hx] <;> iassumption

/-- The wait for the end of one of the device's own transfers. -/
theorem step_done {e e' n i j : ℕ} {h hq hs hs' ha hss hd1 hd2} {kont : PUnit.{1} → PB F} (hn : n < 42) (hd : sOrd ⟨n, hn⟩ = d) (hk : d < k)
    (he : e = rowsT ⟨n, hn⟩) (hf : filledB s r (tSrc ⟨n, hn⟩) = true)
    (hk' : Run X K c s k r (sOrd ⟨n, hn⟩ + 1) o (kont ⟨⟩) Q) :
    Run X K c s k r d o (.op (.waitDma2 (semAt cc0_scratch1 n ha hss) (slabM e' i h hs) (slabM e j hq hs') hd1 hd2) kont) Q := by
  unfold Run at hk' ⊢
  rw [hd] at hk'
  rw [semAt_send n hn]
  generalize (⟨n, hn⟩ : Fin 42) = t at *
  have h1 : slabSt X c s k r (d + 1) (tSrc t) = slabFull X c k (d + 1) (tSrc t) := by unfold slabSt; rw [hf, if_pos rfl]
  have h1' : slabSt X c s k r d (tSrc t) = slabFull X c k d (tSrc t) := by unfold slabSt; rw [hf, if_pos rfl]
  have h2 : sndSt (F := F) c k d t = iprop(atPos ER (sendCell t c) 0 ∅ 0 ∗ cred (tallyAt (sendCell t c) () (NT t))) := by
    unfold sndSt; rw [if_neg (by omega), if_pos (by omega)]
  have h3 : sndSt (F := F) c k (d + 1) t = atPos ER (sendCell t c) 1 ∅ 0 := by
    unfold sndSt; rw [if_pos (by omega)]
  have h4 : piece X c k (d + 1) (tSrc t) (tRank t) = sendPay X t c := by
    unfold piece; rw [fly_done_after k d t hd, if_neg (by decide)]; rfl
  have hexp : 0 + (slabM e j hq hs').view.dmaCredit = (kRd (F := F) X).expect (sendCell t c) 0 := by
    rw [expect_send, slabM_credit, Nat.zero_add, he]; rfl
  have hcr : NT t = (slabM e j hq hs').view.dmaCredit := by rw [slabM_credit, he]; rfl
  unfold St at hk' ⊢
  iintro ⟨#HC, ⟨%W, HO⟩, HS, HR, HB, Hx, Hout⟩
  ihave H := (bigSep_upd (tSrc t) (slabSt X c s k r d) (slabSt X c s k r (d + 1))
    fun j hj => slabSt_congr X c _ _ _ _ _ _ _ _ j rfl fun n => fly_done_other k d t hd j n fun hh => hj hh.1) $$ HB
  icases H with ⟨H, HB⟩
  ihave H := (Entails.of_eq (h1'.trans (by unfold slabFull; rfl))) $$ H
  icases H with ⟨Hkeep, H⟩
  ihave H := (bigSep_upd (tRank t) (piece X c k d (tSrc t)) (piece X c k (d + 1) (tSrc t))
    fun n hn => by unfold piece; rw [fly_done_other k d t hd (tSrc t) n fun hh => hn hh.2]) $$ H
  icases H with ⟨-, Hpc⟩
  ihave H := (bigSep_upd t (sndSt c k d) (sndSt c k (d + 1)) (snd_done_other c k d t hd)) $$ HS
  icases H with ⟨H, HS⟩
  ihave H := (Entails.of_eq h2) $$ H
  icases H with ⟨Hat, Hcr⟩
  ihave H1 := (ctx_at X K c t) $$ HC
  unfold ctx1
  icases H1 with ⟨#HI, -, -, -, -⟩
  iapply (Rounds.wp_wait_rest_token 𝒱₀ ER (kRd X) (c : Thread nD τ) none (κ := K (sendCell t c))
      (wpE_waitDma2_eq 𝒱₀ (c : Thread nD τ) none Set.univ) (Set.mem_univ _) () (O := Ow c k) (W := W) (R := 0) (m := 0) (T := ∅) hexp) $$ [Hcr HO Hat]
  · isplitr; · iexact HI
    isplitl [Hcr]; · rw [hcr]; iexact Hcr
    isplitl [HO]; · iexact HO
    isplitr
    · iapply (mayWait c (.dma (sendS t)) k (by rw [lv_send]; omega))
      iapply (ctx_lev X K c); iexact HC
    iexact Hat
  iintro ⟨HO, Hat, -, Hpay⟩
  ihave Hp := (Entails.of_eq (rest_send X c t)) $$ Hpay
  iapply hk'
  isplitr; · iexact HC
  isplitl [HO]; · iexists _; iexact HO
  isplitl [HS Hat]
  · iapply HS
    iapply (Entails.of_eq h3.symm); iexact Hat
  isplitl [HR]; · iexact HR
  isplitl [HB Hp Hkeep Hpc]
  · iapply HB
    iapply (Entails.of_eq (h1.trans (by unfold slabFull; rfl)).symm)
    isplitl [Hkeep]; · iexact Hkeep
    iapply Hpc
    iapply (Entails.of_eq h4.symm); iexact Hp
  isplitl [Hx] <;> iassumption

/-- The start of a transfer. -/
theorem step_send {e n n' i j : ℕ} {dev : Dev nD → Dev nD} {h hq hs hs' ha hss ha' hss' hsc hw1 hw2 hty} {kont : PUnit.{1} → PB F} (hn : n < 42)
    (hn' : n' = n) (hi : i = (tSrc ⟨n, hn⟩).val) (hj : j = (tDst ⟨n, hn⟩).val) (he : e = rowsT ⟨n, hn⟩) (hdev : ∀ c, dev c = pr (tAx ⟨n, hn⟩) c)
    (hk : sOrd ⟨n, hn⟩ = k) (hd : d ≤ k) (hf : filledB s r (tSrc ⟨n, hn⟩) = true)
    (hk' : Run X K c s (sOrd ⟨n, hn⟩ + 1) r d o (kont ⟨⟩) Q) :
    Run X K c s k r d o (.op (.enqueueDma (slabM e i h hs)
      (.remote (Dev.tc (dev c)) (slabM e j hq hs') (.dma (semAt cc0_scratch1 n ha hss)) hsc) (.dma (semAt cc0_scratch2 n' ha' hss')) hw1 hw2 hty) kont) Q := by
  unfold Run at hk' ⊢
  rw [hk] at hk'
  subst hn'
  revert hty
  rw [semAt_send n' hn, semAt_recv n' hn, hdev c]
  intro hty
  generalize (⟨n', hn⟩ : Fin 42) = t at *
  have h1 : slabSt X c s (k + 1) r d (tSrc t) = slabFull X c (k + 1) d (tSrc t) := by unfold slabSt; rw [hf, if_pos rfl]
  have h1' : slabSt X c s k r d (tSrc t) = slabFull X c k d (tSrc t) := by unfold slabSt; rw [hf, if_pos rfl]
  have h2 : sndSt (F := F) c k d t = iprop(atPos ER (sendCell t c) 0 ∅ 0 ∗ dutyTok ER (sendCell t c) 0 (0 : Fin 3)
      ∗ dutyTok ER (recvCell t (pr (tAx t) c)) 0 (0 : Fin 3) ∗ ∃ f, slabPt (pr (tAx t) c) (tDst t) fullShare f) := by
    unfold sndSt; rw [if_neg (by omega), if_neg (by omega)]
  have h3 : sndSt (F := F) c (k + 1) d t = iprop(atPos ER (sendCell t c) 0 ∅ 0 ∗ cred (tallyAt (sendCell t c) () (NT t))) := by
    unfold sndSt; rw [if_neg (by omega), if_pos (by omega)]
  have h4 : piece X c k d (tSrc t) (tRank t) = sendPay X t c := by
    unfold piece; rw [fly_send_before k d t hk, if_neg (by decide)]; rfl
  have h5 : piece X c (k + 1) d (tSrc t) (tRank t) = iprop(emp) := by
    unfold piece; rw [fly_send_after k d t hk hd, if_pos rfl]
  have hsrc : (slabM e i h hs).view.set = slabSet (tSrc t) := by
    subst hi; exact slabM_set' e _ h hs (tSrc t).isLt (he.trans (rowsS_src t).symm)
  have hdst : (slabM e j hq hs').view.set = slabSet (tDst t) := by
    subst hj; exact slabM_set' e _ hq hs' (tDst t).isLt (he.trans (rowsS_dst t).symm)
  have hsP : (((slabM e i h hs).view.loc (c : Thread nD τ)) ↦[(slabM e i h hs).view.set]{shr t} (slabF X c) : sProp 𝕄) = sendPay X t c := by
    rw [hsrc]; rfl
  have hdP (fd) : (((slabM e j hq hs').view.loc (pr (tAx t) c : Thread nD τ)) ↦[(slabM e j hq hs').view.set]{fullShare} fd : sProp 𝕄)
      = slabPt (pr (tAx t) c) (tDst t) fullShare fd := by
    rw [hdst]
  unfold St at hk' ⊢
  iintro ⟨#HC, ⟨%W, HO⟩, HS, HR, HB, Hx, Hout⟩
  ihave H := (bigSep_upd (tSrc t) (slabSt X c s k r d) (slabSt X c s (k + 1) r d)
    fun j hj => slabSt_congr X c _ _ _ _ _ _ _ _ j rfl fun n => fly_send_other k d t hk j n fun hh => hj hh.1) $$ HB
  icases H with ⟨H, HB⟩
  ihave H := (Entails.of_eq (h1'.trans (by unfold slabFull; rfl))) $$ H
  icases H with ⟨Hkeep, H⟩
  ihave H := (bigSep_upd (tRank t) (piece X c k d (tSrc t)) (piece X c (k + 1) d (tSrc t))
    fun n hn => by unfold piece; rw [fly_send_other k d t hk (tSrc t) n fun hh => hn hh.2]) $$ H
  icases H with ⟨H, Hpc⟩
  ihave Hsrc := (Entails.of_eq (h4.trans hsP.symm)) $$ H
  ihave H := (bigSep_upd t (sndSt c k d) (sndSt c (k + 1) d) (snd_send_other c k d t hk)) $$ HS
  icases H with ⟨H, HS⟩
  ihave H := (Entails.of_eq h2) $$ H
  icases H with ⟨Hat, HtS, HtR, ⟨%fd, Hdst⟩⟩
  ihave Hdst := (Entails.of_eq (hdP fd).symm) $$ Hdst
  ihave H1 := (ctx_at X K c t) $$ HC
  unfold ctx1
  icases H1 with ⟨#HIs, -, #HIr, #HrS, #HrR⟩
  iapply (Rounds.wp_send_pointsTo 𝒱₀ ER (kRd X) (c : Thread nD τ) none (c' := (pr (tAx t) c : Thread nD τ)) (src := slabM e i h hs)
      (dst := slabM e j hq hs') (sS := .dma (sendS t)) (sem := .dma (recvS t)) (q := shr t) (fs := slabF X c) (κ₁ := K (sendCell t c))
      (κ₂ := K (recvCell t (pr (tAx t) c))) (r₁ := 0) (r₂ := 0) (d₁ := 0) (d₂ := 0) (fd := fd)
      (by rw [duties_send]; exact Finset.mem_singleton_self _) (by rw [duties_recv]; exact Finset.mem_singleton_self _)
      () () (NT t) (by rw [View.amount_dma, slabM_credit, he]; rfl) (amount_send X c t 0) (amount_recv X (pr (tAx t) c) t 0) (Ow c (k + 1)) (Ow_succ c k t hk) (W := W)
      (by rw [payload_send, hsP])
      (by rw [payload_recv, hdP]; unfold recvPay slabPt; rw [pointsTo_congr (land_write X c t e i j h hq hs hs' hi hj he fd)]))
      $$ [Hsrc Hdst HO HtS HtR]
  · isplitr; · iexact HIs
    isplitr; · iexact HIr
    isplitl [Hsrc]; · iexact Hsrc
    isplitl [Hdst]; · iexact Hdst
    isplitl [HO]; · iexact HO
    isplitl [HtS]; · iexact HtS
    isplitr; · iexact HrS
    isplitl [HtR]; · iexact HtR
    iexact HrR
  iintro ⟨Hcr, HO⟩
  iapply hk'
  isplitr; · iexact HC
  isplitl [HO]; · iexists _; iexact HO
  isplitl [HS Hat Hcr]
  · iapply HS
    iapply (Entails.of_eq h3.symm)
    isplitl [Hat] <;> iassumption
  isplitl [HR]; · iexact HR
  isplitl [HB Hkeep Hpc]
  · iapply HB
    iapply (Entails.of_eq (h1.trans (by unfold slabFull; rfl)).symm)
    isplitl [Hkeep]; · iexact Hkeep
    iapply Hpc
    iapply (Entails.of_eq h5.symm)
    iempintro
  isplitl [Hx] <;> iassumption

/-- A device reads its own name. -/
theorem step_dev {kont : Dev nD → PB F} (hk : Run X K c s k r d o (kont c) Q) : Run X K c s k r d o (.op .deviceId kont) Q := by
  unfold Run wpB at hk ⊢
  rwa [wp_deviceId]

/-- The stores of slabs 0 to 3, 4 and 5, 6, and 7. -/
theorem step_st0 {e i p j : ℕ} {h hx hm hv hin hb} {kont : PUnit.{1} → PB F} (hi : i < 66) (he : e = rowsS ⟨i, hi⟩)
    (ho : own ⟨i, hi⟩ = true) (hs : iOrd ⟨i, hi⟩ = s) (hf : ∀ n, flyB k d ⟨i, hi⟩ n = false)
    (hp : i / 22 = p ∧ i % 22 = j ∧ j < 4)
    (hk : Run X K c (iOrd ⟨i, hi⟩ + 1) k r d o (kont ⟨⟩) Q) :
    Run X K c s k r d o (.op (.store scrM (slabR e i h) (inV hin (dnV hb (xV hv (xRow X p j e c)))) Finset.univ hx hm) kont) Q :=
  step_sts hi he ho hs hf (pay0 X hv hin hb i p j c hp.1 hp.2.1 hp.2.2) hk
theorem step_st4 {e i l p j : ℕ} {h hx hm hv hin hout hb} {kont : PUnit.{1} → PB F} (hi : i < 66) (he : e = rowsS ⟨i, hi⟩)
    (ho : own ⟨i, hi⟩ = true) (hs : iOrd ⟨i, hi⟩ = s) (hf : ∀ n, flyB k d ⟨i, hi⟩ n = false)
    (hp : i / 22 = p ∧ i % 22 = j ∧ l / 22 = p ∧ l % 22 = j + 4 ∧ (j = 4 ∨ j = 5))
    (hk : Run X K c (iOrd ⟨i, hi⟩ + 1) k r d o (kont ⟨⟩) Q) :
    Run X K c s k r d o (.op (.store scrM (slabR e i h) (inV hin (dnV hb (addf (xV hv (xRow X p j e c)) (upV hout hb (slRow X l e c)))))
      Finset.univ hx hm) kont) Q :=
  step_sts hi he ho hs hf (pay4 X hv hin hout hb i l p j c hp.1 hp.2.1 hp.2.2.1 hp.2.2.2.1 hp.2.2.2.2) hk
theorem step_st6 {e i l l' p : ℕ} {h hx hm hv hin hout hb} {kont : PUnit.{1} → PB F} (hi : i < 66) (he : e = rowsS ⟨i, hi⟩)
    (ho : own ⟨i, hi⟩ = true) (hs : iOrd ⟨i, hi⟩ = s) (hf : ∀ n, flyB k d ⟨i, hi⟩ n = false)
    (hp : i / 22 = p ∧ i % 22 = 6 ∧ l / 22 = p ∧ l % 22 = 10 ∧ l' / 22 = p ∧ l' % 22 = 12)
    (hk : Run X K c (iOrd ⟨i, hi⟩ + 1) k r d o (kont ⟨⟩) Q) :
    Run X K c s k r d o (.op (.store scrM (slabR e i h) (inV hin (dnV hb (addf (addf (xV hv (xRow X p 6 e c)) (upV hout hb (slRow X l e c)))
      (upV hout hb (slRow X l' e c))))) Finset.univ hx hm) kont) Q :=
  step_sts hi he ho hs hf (pay6 X hv hin hout hb i l l' p c hp.1 hp.2.1 hp.2.2.1 hp.2.2.2.1 hp.2.2.2.2.1 hp.2.2.2.2.2) hk
theorem step_st7 {e i l l' l'' p : ℕ} {h hx hm hv hin hout hb} {kont : PUnit.{1} → PB F} (hi : i < 66) (he : e = rowsS ⟨i, hi⟩)
    (ho : own ⟨i, hi⟩ = true) (hs : iOrd ⟨i, hi⟩ = s) (hf : ∀ n, flyB k d ⟨i, hi⟩ n = false)
    (hp : i / 22 = p ∧ i % 22 = 7 ∧ l / 22 = p ∧ l % 22 = 11 ∧ l' / 22 = p ∧ l' % 22 = 13 ∧ l'' / 22 = p ∧ l'' % 22 = 14)
    (hk : Run X K c (iOrd ⟨i, hi⟩ + 1) k r d o (kont ⟨⟩) Q) :
    Run X K c s k r d o (.op (.store scrM (slabR e i h) (inV hin (dnV hb (addf (addf (addf (xV hv (xRow X p 7 e c)) (upV hout hb (slRow X l e c)))
      (upV hout hb (slRow X l' e c))) (upV hout hb (slRow X l'' e c))))) Finset.univ hx hm) kont) Q :=
  step_sts hi he ho hs hf (pay7 X hv hin hout hb i l l' l'' p c hp.1 hp.2.1 hp.2.2.1 hp.2.2.2.1 hp.2.2.2.2.1 hp.2.2.2.2.2.1 hp.2.2.2.2.2.2.1
    hp.2.2.2.2.2.2.2) hk
/-- The store of a finished slab to the result. -/
theorem step_out {e i : ℕ} {off : Dev nD → Fin 2 → ℕ} {h hx hm hout hb} {kont : PUnit.{1} → PB F} (hi : i < 66)
    (he : e = rowsS ⟨i, hi⟩) (hj : i % 22 = 7 ∨ 15 ≤ i % 22)
    (hoff : ∀ c, off c = ![rho (i / 22) (outTag (i % 22)) c, 0])
    (hk : Run X K c s k r d (⟨i, hi⟩ :: o) (kont ⟨⟩) Q) :
    Run X K c s k r d o (.op (.store oM (Rect.unit (s := S2048x1024) (off c) (S2e e).size h) (upV hout hb (slRow X i e c)) Finset.univ hx hm) kont) Q :=
  step_sto i hi he hj hoff (fun y => upV_at X hout hb i c y) hk

end Steps

end Cert.KernelIdeal.Hand

end
-- ==== Proof.Start.lean ====
/-
  The ends of the body's run: the barrier, which turns what a device is launched with into the state of the first operation,
  and what the last state comes to.
-/
module

public import proofs.«01_k».proof.Proof.Steps

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Ends

variable (X : Dev nD → S2048x1024.Idx → F .f32) (K : GSem nD τ sig → ℕ) (c : Dev nD)

/-- The records of transfer `t` a device is launched with. -/
def rec1 (t : Fin 42) : sProp 𝕄 :=
  iprop(cellInv ER (kRd X) (K (sendCell t c)) (sendCell t c)
    ∗ cellInv ER (kRd X) (K (recvCell t c)) (recvCell t c)
    ∗ cellInv ER (kRd X) (K (recvCell t (pr (tAx t) c))) (recvCell t (pr (tAx t) c))
    ∗ reached ER (sendCell t c) 0 ∗ reached ER (recvCell t c) 0)
instance rec1_persistent (t : Fin 42) : BI.Persistent (rec1 X K c t) := by unfold rec1; infer_instance
/-- The records of the barrier cell of the neighbour across axis `a`. -/
def barRec (a : Fin 3) : sProp 𝕄 :=
  iprop(cellInv ER (kRd X) (K (barCell (pr a.val c))) (barCell (pr a.val c)) ∗ reached ER (barCell (pr a.val c)) 0)
instance barRec_persistent (a : Fin 3) : BI.Persistent (barRec X K c a) := by unfold barRec; infer_instance
/-- All of them, with the levels. -/
def recs : sProp 𝕄 :=
  iprop((bigSep Finset.univ fun t : Fin 42 => rec1 X K c t) ∗ (bigSep Finset.univ fun a : Fin 3 => barRec X K c a)
    ∗ cellInv ER (kRd X) (K (barCell c)) (barCell c) ∗ levAts L lv)
instance recs_persistent : BI.Persistent (recs X K c) := by unfold recs; infer_instance

/-- The right to start transfer `t`. -/
def tok1 (t : Fin 42) : sProp 𝕄 :=
  iprop(atPos ER (sendCell t c) 0 ∅ 0 ∗ dutyTok ER (sendCell t c) 0 (0 : Fin 3) ∗ dutyTok ER (recvCell t (pr (tAx t) c)) 0 (0 : Fin 3))
/-- The right to signal the neighbour across axis `a`. -/
def barTok (a : Fin 3) : sProp 𝕄 := dutyTok ER (barCell (pr a.val c)) 0 a

/-- What a device starts the body with. -/
def Start : sProp 𝕄 :=
  iprop(recs X K c ∗ (∃ W, owes (c : Thread nD τ) (O₀ c) W) ∗ atPos ER (barCell c) 0 ∅ 0 ∗ cred (tallyAt (barCell c) () 3)
    ∗ (bigSep Finset.univ fun a : Fin 3 => barTok c a) ∗ (bigSep Finset.univ fun t => tok1 c t) ∗ (bigSep Finset.univ fun t => rcvSt c 0 t)
    ∗ (bigSep Finset.univ fun i => iprop(∃ f, slabPt c i fullShare f)) ∗ xPt X c ∗ outSt X c [])

/-- What the last operation leaves. -/
def After : sProp 𝕄 :=
  iprop((∃ W, owes (c : Thread nD τ) 0 W) ∗ (bigSep Finset.univ fun t => atPos ER (sendCell t c) 1 ∅ 0)
    ∗ (bigSep Finset.univ fun t => atPos ER (recvCell t c) 1 ∅ 0) ∗ (bigSep Finset.univ fun i => slabPt c i fullShare (slabF X c)) ∗ xPt X c
    ∗ (c : Thread nD τ).loc cc0_stg1_0 ↦{fullShare} (outC X : Buf (Elt F) ((c : Thread nD τ).loc cc0_stg1_0)))
/-- What a device ends the body with. -/
def Done : sProp 𝕄 := iprop(After X c ∗ recs X K c ∗ atPos ER (barCell c) 1 ∅ 0)

/-! ## The barrier -/

/-- A conjunction over what has a property and over what has not. -/
theorem split_by {ι : Type} [DecidableEq ι] (s : Finset ι) (p : ι → Prop) [DecidablePred p] {Φ : ι → sProp 𝕄} :
    bigSep s Φ = iprop(bigSep (s.filter p) Φ ∗ bigSep (s.filter fun i => ¬ p i) Φ) := bigSep_filter_split s p

theorem mono_eq {ι : Type} {s : Finset ι} {Φ Ψ : ι → sProp 𝕄} (h : ∀ i ∈ s, Φ i = Ψ i) : bigSep s Φ ⊢ bigSep s Ψ :=
  Entails.of_eq (bigSep_congr h)

/-- A conjunction over the transfers, axis by axis. -/
theorem by_axis (Φ : Fin 42 → sProp 𝕄) : bigSep Finset.univ Φ = iprop(bigSep (Finset.univ.filter fun t => tAx t = (0 : Fin 3).val) Φ
    ∗ bigSep (Finset.univ.filter fun t => tAx t = (1 : Fin 3).val) Φ ∗ bigSep (Finset.univ.filter fun t => tAx t = (2 : Fin 3).val) Φ) := by
  rw [split_by Finset.univ (fun t : Fin 42 => tAx t = (0 : Fin 3).val),
    split_by (Finset.univ.filter fun t : Fin 42 => ¬ tAx t = (0 : Fin 3).val) (fun t : Fin 42 => tAx t = (1 : Fin 3).val)]
  have h1 : (Finset.univ.filter fun t : Fin 42 => ¬ tAx t = (0 : Fin 3).val).filter (fun t => tAx t = (1 : Fin 3).val)
      = Finset.univ.filter fun t => tAx t = (1 : Fin 3).val := by decide
  have h2 : (Finset.univ.filter fun t : Fin 42 => ¬ tAx t = (0 : Fin 3).val).filter (fun t => ¬ tAx t = (1 : Fin 3).val)
      = Finset.univ.filter fun t => tAx t = (2 : Fin 3).val := by decide
  rw [h1, h2]

/-- The slabs are those the device stores itself and those the transfers fill. -/
theorem slabs_split (Φ : Fin 66 → sProp 𝕄) : bigSep Finset.univ Φ
    = iprop(bigSep (Finset.univ.filter fun i => own i = true) Φ ∗ bigSep Finset.univ fun t : Fin 42 => Φ (tDst t)) := by
  rw [split_by Finset.univ (fun i : Fin 66 => own i = true)]
  have h : (Finset.univ.filter fun i : Fin 66 => ¬ own i = true) = Finset.univ.image tDst := by decide +kernel
  rw [h, bigSep_image_of_injOn (fun a _ b _ hab => tDst_inj a b hab)]

variable {X K c}

/-- What the signal to the neighbour across axis `a` hands over. -/
theorem barPay_intro (a : Fin 3) : iprop((bigSep (Finset.univ.filter fun t : Fin 42 => tAx t = a.val) fun t => iprop(∃ f, slabPt c (tDst t) fullShare f))
    ∗ recs X K c) ⊢ (kRd X).payload (barCell (pr a.val c)) 0 a := by
  rw [payload_bar]
  unfold barPay
  rw [pr_pr]
  iintro ⟨H, #HR⟩
  iapply (Entails.of_eq (bigSep_sep' _ _ _).symm)
  isplitl [H]; · iexact H
  iapply (bigSep_intro_persistent (S := Finset.univ.filter fun t : Fin 42 => tAx t = a.val) (R := recs X K c)
    (Φ := fun t => reached ER (recvCell t c) 0) fun t _ => by
      unfold recs
      iintro ⟨H, -⟩
      ihave H := (show (bigSep Finset.univ fun t : Fin 42 => rec1 X K c t) ⊢ rec1 X K c t from bigSep_elim (Finset.mem_univ t)) $$ H
      unfold rec1
      icases H with ⟨-, -, -, -, H⟩
      iexact H)
  iexact HR

/-- What the other three hand over. -/
theorem barPay_elim : iprop(barPay (F := F) 0 c ∗ barPay 1 c ∗ barPay 2 c)
    ⊢ bigSep Finset.univ fun t : Fin 42 => iprop((∃ f, slabPt (pr (tAx t) c) (tDst t) fullShare f) ∗ reached ER (recvCell t (pr (tAx t) c)) 0) := by
  rw [by_axis]
  have h (a : Fin 3) : barPay (F := F) a c ⊢ bigSep (Finset.univ.filter fun t : Fin 42 => tAx t = a.val) fun t : Fin 42 =>
      iprop((∃ f, slabPt (pr (tAx t) c) (tDst t) fullShare f) ∗ reached ER (recvCell t (pr (tAx t) c)) 0) := by
    unfold barPay
    exact mono_eq fun t ht => by rw [(Finset.mem_filter.mp ht).2]
  iintro ⟨H0, H1, H2⟩
  isplitl [H0]; · iapply (h 0); iexact H0
  isplitl [H1]; · iapply (h 1); iexact H1
  iapply (h 2); iexact H2

variable (X K c)

/-- The state of the first operation after the barrier. -/
theorem St_intro : iprop(recs X K c ∗ (∃ W, owes (c : Thread nD τ) (Ow c 0) W) ∗ (bigSep Finset.univ fun t => tok1 c t)
    ∗ (bigSep Finset.univ fun t : Fin 42 => iprop((∃ f, slabPt (pr (tAx t) c) (tDst t) fullShare f) ∗ reached ER (recvCell t (pr (tAx t) c)) 0))
    ∗ (bigSep Finset.univ fun t => rcvSt c 0 t) ∗ (bigSep (Finset.univ.filter fun i : Fin 66 => own i = true) fun i => iprop(∃ f, slabPt c i fullShare f))
    ∗ xPt X c ∗ outSt X c []) ⊢ St X K c 0 0 0 0 [] := by
  unfold St ctx recs
  iintro ⟨⟨#H1, -, -, #HL⟩, HO, Ht, Hp, Hr, Hs, Hx, Ho⟩
  ihave Hp := (Entails.of_eq (bigSep_sep' _ _ _)) $$ Hp
  icases Hp with ⟨Hp, #Hre⟩
  isplitr
  · isplitr
    · ihave H := (Entails.of_eq (bigSep_sep' Finset.univ (fun t => rec1 X K c t) (fun t => reached ER (recvCell t (pr (tAx t) c)) 0)).symm) $$ [H1 Hre]
      · isplitr; · iexact H1
        iexact Hre
      have hc (t : Fin 42) : iprop(rec1 X K c t ∗ reached ER (recvCell t (pr (tAx t) c)) 0) ⊢ ctx1 X K c t := by
        unfold rec1 ctx1
        iintro ⟨⟨Ha, Hb, Hc, Hd, -⟩, He⟩
        isplitl [Ha]; · iexact Ha
        isplitl [Hb]; · iexact Hb
        isplitl [Hc]; · iexact Hc
        isplitl [Hd] <;> iassumption
      iapply (show (bigSep Finset.univ fun t : Fin 42 => iprop(rec1 X K c t ∗ reached ER (recvCell t (pr (tAx t) c)) 0))
        ⊢ bigSep Finset.univ fun t : Fin 42 => ctx1 X K c t from bigSep_mono fun t _ => hc t)
      iexact H
    · iexact HL
  isplitl [HO]; · iexact HO
  isplitl [Ht Hp]
  · ihave H := (Entails.of_eq (bigSep_sep' Finset.univ (fun t => tok1 c t) (fun t => iprop(∃ f, slabPt (pr (tAx t) c) (tDst t) fullShare f))).symm) $$ [Ht Hp]
    · isplitl [Ht] <;> iassumption
    have hc (t : Fin 42) : iprop(tok1 (F := F) c t ∗ ∃ f, slabPt (pr (tAx t) c) (tDst t) fullShare f) ⊢ sndSt c 0 0 t := by
      unfold tok1 sndSt
      rw [if_neg (Nat.not_lt_zero _), if_neg (Nat.not_lt_zero _)]
      iintro ⟨⟨Ha, Hb, Hc⟩, Hd⟩
      isplitl [Ha]; · iexact Ha
      isplitl [Hb]; · iexact Hb
      isplitl [Hc] <;> iassumption
    iapply (show (bigSep Finset.univ fun t : Fin 42 => iprop(tok1 (F := F) c t ∗ ∃ f, slabPt (pr (tAx t) c) (tDst t) fullShare f))
      ⊢ bigSep Finset.univ fun t : Fin 42 => sndSt c 0 0 t from bigSep_mono fun t _ => hc t)
    iexact H
  isplitl [Hr]; · iexact Hr
  isplitl [Hs]
  · rw [slabs_split (fun i => slabSt X c 0 0 0 0 i)]
    isplitl [Hs]
    · iapply (show (bigSep (Finset.univ.filter fun i : Fin 66 => own i = true) fun i => iprop(∃ f, slabPt c i fullShare f))
        ⊢ bigSep (Finset.univ.filter fun i : Fin 66 => own i = true) fun i => slabSt X c 0 0 0 0 i from mono_eq fun i hi => by
          have ho := (Finset.mem_filter.mp hi).2
          unfold slabSt filledB; rw [if_pos ho, if_neg (by simp), if_pos ho])
      iexact Hs
    · iapply (bigSep_intro_persistent (S := (Finset.univ : Finset (Fin 42))) (R := iprop(emp)) (Φ := fun t => slabSt X c 0 0 0 0 (tDst t)) fun t _ => by
        have he : slabSt X c 0 0 0 0 (tDst t) = iprop(emp) := by unfold slabSt filledB; rw [own_dst, if_neg (by simp), if_neg (by decide)]
        exact Entails.of_eq he.symm)
      iempintro
  isplitl [Hx] <;> iassumption

/-- A result all of whose blocks are written. -/
theorem out_all (f : S2048x1024.Idx → F .f32) (hf : ∀ i : Fin 66, i.val % 22 = 7 ∨ 15 ≤ i.val % 22 → OutAt X c i f) (z : S2048x1024.Idx) : outC X z = f z := by
  obtain ⟨p, hp, b, hb, h1, h2⟩ := row_block (z 0).val (z 0).isLt
  obtain ⟨j, hj, rfl⟩ := tag_block c p hp b hb
  have key : ∀ p < 3, ∀ j < 8, ∃ i : Fin 66, (i.val % 22 = 7 ∨ 15 ≤ i.val % 22) ∧ i.val / 22 = p ∧ outTag (i.val % 22) = j := by decide +kernel
  obtain ⟨i, hi, rfl, rfl⟩ := key p hp j hj
  exact (hf i hi z h1 h2).symm

variable {X K c} {Q : QB F}

/-- The barrier: a signal to each neighbour, and a wait for one from each. -/
theorem step_bar {d1 d2 d3 : Dev nD} (h1 : d1 = pr 0 c) (h2 : d2 = pr 1 c) (h3 : d3 = pr 2 c) {kont : PUnit.{1} → PB F}
    (hk : Run X K c 0 0 0 0 [] (kont ⟨⟩) Q) :
    Start X K c ⊢ wpB c (.op (.semSignal (d1 : Thread nD τ) barS (1#32).toInt) fun _ => .op (.semSignal (d2 : Thread nD τ) barS (1#32).toInt) fun _ =>
      .op (.semSignal (d3 : Thread nD τ) barS (1#32).toInt) fun _ => .op (.semWait barS (3#32).toInt) kont)
      (fun u => iprop(Q u ∗ recs X K c ∗ atPos ER (barCell c) 1 ∅ 0)) := by
  unfold Run at hk
  subst h1 h2 h3
  unfold Start
  rw [slabs_split (fun i => iprop(∃ f, slabPt c i fullShare f)), by_axis (fun t => iprop(∃ f, slabPt c (tDst t) fullShare f)), bigSep_fin3]
  unfold barTok
  have e1 : (1#32 : BitVec 32).toInt = ((1 : ℕ) : ℤ) := by decide
  have e3 : (3#32 : BitVec 32).toInt = ((3 : ℕ) : ℤ) := by decide
  rw [e1, e3]
  iintro ⟨#HR, ⟨%W, HO⟩, Hat, Hcr, ⟨HT0, HT1, HT2⟩, Ht, Hr, ⟨Hs, H0, H1, H2⟩, Hx, Ho⟩
  have hb (a : Fin 3) : recs X K c ⊢ barRec X K c a := by
    unfold recs
    iintro ⟨-, H, -, -⟩
    iapply (show (bigSep Finset.univ fun a : Fin 3 => barRec X K c a) ⊢ barRec X K c a from bigSep_elim (Finset.mem_univ a))
    iexact H
  have hp0 : iprop((bigSep (Finset.univ.filter fun t : Fin 42 => tAx t = (0 : Fin 3).val) fun t => iprop(∃ f, slabPt c (tDst t) fullShare f))
      ∗ recs X K c) ⊢ (kRd X).payload ((pr 0 c : Thread nD τ), .reg barS) 0 0 := barPay_intro 0
  have hp1 : iprop((bigSep (Finset.univ.filter fun t : Fin 42 => tAx t = (1 : Fin 3).val) fun t => iprop(∃ f, slabPt c (tDst t) fullShare f))
      ∗ recs X K c) ⊢ (kRd X).payload ((pr 1 c : Thread nD τ), .reg barS) 0 1 := barPay_intro 1
  have hp2 : iprop((bigSep (Finset.univ.filter fun t : Fin 42 => tAx t = (2 : Fin 3).val) fun t => iprop(∃ f, slabPt c (tDst t) fullShare f))
      ∗ recs X K c) ⊢ (kRd X).payload ((pr 2 c : Thread nD τ), .reg barS) 0 2 := barPay_intro 2
  ihave Hb0 := (hb 0) $$ HR
  ihave Hb1 := (hb 1) $$ HR
  ihave Hb2 := (hb 2) $$ HR
  unfold barRec
  icases Hb0 with ⟨#HI0, #Hr0⟩
  icases Hb1 with ⟨#HI1, #Hr1⟩
  icases Hb2 with ⟨#HI2, #Hr2⟩
  iapply (Rounds.wp_signal 𝒱₀ ER (kRd X) (c : Thread nD τ) none (dst := (pr 0 c : Thread nD τ)) (κ := K (barCell (pr 0 c))) (d := 0) (r := 0)
      (by rw [duties_bar]; exact Finset.mem_univ _) (amount_bar X (pr 0 c) 0) () (Ow c 0 + tallyAt (barCell (pr 2 c)) () 1 + tallyAt (barCell (pr 1 c)) () 1) rfl)
    $$ [HO HT0 H0]
  · isplitr; · iexact HI0
    isplitl [HO]; · iexact HO
    isplitl [HT0]; · iexact HT0
    isplitl [H0]
    · iapply (hp0)
      isplitl [H0]; · iexact H0
      iexact HR
    · iexact Hr0
  iintro HO
  iapply (Rounds.wp_signal 𝒱₀ ER (kRd X) (c : Thread nD τ) none (dst := (pr 1 c : Thread nD τ)) (κ := K (barCell (pr 1 c))) (d := 1) (r := 0)
      (by rw [duties_bar]; exact Finset.mem_univ _) (amount_bar X (pr 1 c) 1) () (Ow c 0 + tallyAt (barCell (pr 2 c)) () 1) rfl)
    $$ [HO HT1 H1]
  · isplitr; · iexact HI1
    isplitl [HO]; · iexact HO
    isplitl [HT1]; · iexact HT1
    isplitl [H1]
    · iapply (hp1)
      isplitl [H1]; · iexact H1
      iexact HR
    · iexact Hr1
  iintro HO
  iapply (Rounds.wp_signal 𝒱₀ ER (kRd X) (c : Thread nD τ) none (dst := (pr 2 c : Thread nD τ)) (κ := K (barCell (pr 2 c))) (d := 2) (r := 0)
      (by rw [duties_bar]; exact Finset.mem_univ _) (amount_bar X (pr 2 c) 2) () (Ow c 0) rfl)
    $$ [HO HT2 H2]
  · isplitr; · iexact HI2
    isplitl [HO]; · iexact HO
    isplitl [HT2]; · iexact HT2
    isplitl [H2]
    · iapply (hp2)
      isplitl [H2]; · iexact H2
      iexact HR
    · iexact Hr2
  iintro HO
  have hi : recs X K c ⊢ cellInv ER (kRd X) (K (barCell c)) (barCell c) := by
    unfold recs
    iintro ⟨-, -, H, -⟩
    iexact H
  have hl : recs X K c ⊢ levAts L lv := by
    unfold recs
    iintro ⟨-, -, -, H⟩
    iexact H
  iapply (Rounds.wp_wait_rest_token 𝒱₀ ER (kRd X) (c : Thread nD τ) none (κ := K (barCell c))
      (wpE_semWait_eq 𝒱₀ (c : Thread nD τ) none Set.univ) (Set.mem_univ _) () (O := Ow c 0) (W := W) (R := 0) (m := 0) (T := ∅)
      ((Nat.zero_add 3).trans (expect_bar X c).symm)) $$ [Hcr HO Hat]
  · isplitr; · iapply hi; iexact HR
    isplitl [Hcr]; · iexact Hcr
    isplitl [HO]; · iexact HO
    isplitr
    · iapply (mayWait c (.reg barS) 0 (by rw [lv_bar]; omega))
      iapply hl; iexact HR
    iexact Hat
  iintro ⟨HO, Hat, -, Hpay⟩
  ihave Hp := (Entails.of_eq (rest_bar X c)) $$ Hpay
  ihave Hp := barPay_elim $$ Hp
  iapply (wp_frame_r frame (wpE (defs₀ (F := F)) 𝒱₀ (c : Thread nD τ) none) Set.univ (Q := Q) (R := iprop(recs X K c ∗ atPos ER (barCell c) 1 ∅ 0)))
  isplitr [Hat]
  · iapply hk
    iapply (St_intro X K c)
    isplitr; · iexact HR
    isplitl [HO]; · iexists _; iexact HO
    isplitl [Ht]; · iexact Ht
    isplitl [Hp]; · iexact Hp
    isplitl [Hr]; · iexact Hr
    isplitl [Hs]; · iexact Hs
    isplitl [Hx] <;> iassumption
  · isplitr; · iexact HR
    iexact Hat

/-! ## The last state -/

/-- Slabs written, transfers over, the result's blocks all stored. -/
theorem step_ret {s k r d : ℕ} {o : List (Fin 66)} (hs : s = 24) (hkk : k = 42) (hr : r = 42) (hd : d = 42)
    (ho : ∀ i : Fin 66, i.val % 22 = 7 ∨ 15 ≤ i.val % 22 → i ∈ o) :
    Run X K c s k r d o (.ret ⟨⟩) (fun _ => After X c) := by
  subst hs hkk hr hd
  unfold Run wpB After
  rw [wp_ret]
  have hfly : ∀ i n, flyB 42 42 i n = false := by
    intro i n
    unfold flyB
    refine decide_eq_false fun ⟨t, _, _, h, h'⟩ => ?_
    omega
  have hfill : ∀ i, filledB 24 42 i = true := by decide +kernel
  have hso : ∀ t, sOrd t < 42 := sOrd_lt
  have hro : ∀ t, rOrd t < 42 := by decide +kernel
  unfold St
  rw [Ow_end]
  iintro ⟨-, HO, HS, HR, HB, Hx, Hout⟩
  imodintro
  isplitl [HO]; · iexact HO
  isplitl [HS]
  · iapply (show (bigSep Finset.univ fun t => sndSt (F := F) c 42 42 t) ⊢ bigSep Finset.univ fun t => atPos ER (sendCell t c) 1 ∅ 0 from
      mono_eq fun t _ => by unfold sndSt; rw [if_pos (hso t)])
    iexact HS
  isplitl [HR]
  · iapply (show (bigSep Finset.univ fun t => rcvSt (F := F) c 42 t) ⊢ bigSep Finset.univ fun t => atPos ER (recvCell t c) 1 ∅ 0 from
      mono_eq fun t _ => by unfold rcvSt; rw [if_pos (hro t)])
    iexact HR
  isplitl [HB]
  · iapply (show (bigSep Finset.univ fun i => slabSt X c 24 42 42 42 i) ⊢ bigSep Finset.univ fun i => slabPt c i fullShare (slabF X c) from
      bigSep_mono fun i _ => by unfold slabSt; rw [hfill i, if_pos rfl]; exact slabFull_elim 42 42 i (hfly i))
    iexact HB
  isplitl [Hx]; · iexact Hx
  unfold outSt
  icases Hout with ⟨%f, %hf, H⟩
  rw [show (outC X : Buf (Elt F) ((c : Thread nD τ).loc cc0_stg1_0)) = f from funext fun z => (out_all X c f fun i hi => hf i (ho i hi)) z]
  iexact H

end Ends

end Cert.KernelIdeal.Hand

end
-- ==== Proof.Body.lean ====
/-
  The run of the kernel's body, operation by operation.
-/
module

public import proofs.«01_k».proof.Proof.Start
public import proofs.«01_k».proof.Proof.Gen.KernelIdeal.Skeleton

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem dev1_eq : ∀ c : Dev nD, (⟨k0_dev1 c, k0_dev1_lt c⟩ : Dev nD) = pr 0 c := by decide +kernel
theorem dev2_eq : ∀ c : Dev nD, (⟨k0_dev2 c, k0_dev2_lt c⟩ : Dev nD) = pr 1 c := by decide +kernel
theorem dev3_eq : ∀ c : Dev nD, (⟨k0_dev3 c, k0_dev3_lt c⟩ : Dev nD) = pr 2 c := by decide +kernel

set_option maxRecDepth 65536 in
set_option maxHeartbeats 40000000 in
/-- The body, operation by operation: each is one of the steps, at the numbers it names. -/
theorem body_run (X : Dev nD → S2048x1024.Idx → F .f32) (K : GSem nD τ sig → ℕ) (c : Dev nD) (hx ho hs) :
    Start X K c ⊢ wpB c (cc0_body (F := F) xM hx oM ho scrM hs cc0_scratch1 cc0_scratch2) (fun _ => Done X K c) := by
  rw [cc0_body_eq_skeleton]; unfold cc0_body_skel
  rw [k0_part68_eq_skeleton]; unfold k0_part68_skel
  rw [k0_part1_eq_skeleton]; unfold k0_part1_skel
  simp only [semSignalWord, Prog.lift, Prog.bind_op, Prog.bind_ret, Prog.pure_eq_ret]
  rw [k0_part2_eq_skeleton]; unfold k0_part2_skel
  simp only [semWaitWord, Prog.lift, Prog.bind_op, Prog.bind_ret, Prog.pure_eq_ret]
  unfold wpB
  rw [wp_deviceId]
  refine step_bar (dev1_eq c) (dev2_eq c) (dev3_eq c) (Q := fun _ => After X c) ?_
  generalize Scalar.remsi (Scalar.divsi c.word 4#32) 2#32 = w1
  generalize Scalar.remsi (Scalar.divsi c.word 2#32) 2#32 = w2
  generalize Scalar.remsi (Scalar.divsi c.word 1#32) 2#32 = w3
  generalize Scalar.subi (1#32) w1 = w4
  generalize Scalar.subi (1#32) w2 = w5
  generalize Scalar.subi (1#32) w3 = w6
  repeat
      (first
        | (apply step_send; (case hn => decide +kernel); (case hn' => decide +kernel); (case hi => decide +kernel); (case hj => decide +kernel); (case he => decide +kernel); (case hdev => decide +kernel); (case hk => decide +kernel); (case hd => decide +kernel); (case hf => decide +kernel))
        | (apply step_recv; (case hn => decide +kernel); (case hr => decide +kernel); (case hk => decide +kernel); (case he => decide +kernel); (case hf => decide +kernel))
        | (apply step_done; (case hn => decide +kernel); (case hd => decide +kernel); (case hk => decide +kernel); (case he => decide +kernel); (case hf => decide +kernel))
        | (apply step_lds; (case hi => decide +kernel); (case he => decide +kernel); (case hf => decide +kernel))
        | (apply step_ldj; (case hi => decide +kernel); (case he => decide +kernel); (case ho => decide +kernel); (case hf => decide +kernel); intro v)
        | (apply step_ldo; intro v)
        | (apply step_st0; (case hi => decide +kernel); (case he => decide +kernel); (case ho => decide +kernel); (case hs => decide +kernel); (case hf => decide +kernel); (case hp => decide +kernel))
        | (apply step_st4; (case hi => decide +kernel); (case he => decide +kernel); (case ho => decide +kernel); (case hs => decide +kernel); (case hf => decide +kernel); (case hp => decide +kernel))
        | (apply step_st6; (case hi => decide +kernel); (case he => decide +kernel); (case ho => decide +kernel); (case hs => decide +kernel); (case hf => decide +kernel); (case hp => decide +kernel))
        | (apply step_st7; (case hi => decide +kernel); (case he => decide +kernel); (case ho => decide +kernel); (case hs => decide +kernel); (case hf => decide +kernel); (case hp => decide +kernel))
        | (apply step_out; (case hi => decide +kernel); (case he => decide +kernel); (case hj => decide +kernel); (case hoff => decide +kernel))
        | (apply step_ldx 0 0; (case hp => decide +kernel); (case hj => decide +kernel); (case he => decide +kernel); (case hoff => decide +kernel))
        | (apply step_ldx 0 1; (case hp => decide +kernel); (case hj => decide +kernel); (case he => decide +kernel); (case hoff => decide +kernel))
        | (apply step_ldx 0 2; (case hp => decide +kernel); (case hj => decide +kernel); (case he => decide +kernel); (case hoff => decide +kernel))
        | (apply step_ldx 0 3; (case hp => decide +kernel); (case hj => decide +kernel); (case he => decide +kernel); (case hoff => decide +kernel))
        | (apply step_ldx 0 4; (case hp => decide +kernel); (case hj => decide +kernel); (case he => decide +kernel); (case hoff => decide +kernel))
        | (apply step_ldx 0 5; (case hp => decide +kernel); (case hj => decide +kernel); (case he => decide +kernel); (case hoff => decide +kernel))
        | (apply step_ldx 0 6; (case hp => decide +kernel); (case hj => decide +kernel); (case he => decide +kernel); (case hoff => decide +kernel))
        | (apply step_ldx 0 7; (case hp => decide +kernel); (case hj => decide +kernel); (case he => decide +kernel); (case hoff => decide +kernel))
        | (apply step_ldx 1 0; (case hp => decide +kernel); (case hj => decide +kernel); (case he => decide +kernel); (case hoff => decide +kernel))
        | (apply step_ldx 1 1; (case hp => decide +kernel); (case hj => decide +kernel); (case he => decide +kernel); (case hoff => decide +kernel))
        | (apply step_ldx 1 2; (case hp => decide +kernel); (case hj => decide +kernel); (case he => decide +kernel); (case hoff => decide +kernel))
        | (apply step_ldx 1 3; (case hp => decide +kernel); (case hj => decide +kernel); (case he => decide +kernel); (case hoff => decide +kernel))
        | (apply step_ldx 1 4; (case hp => decide +kernel); (case hj => decide +kernel); (case he => decide +kernel); (case hoff => decide +kernel))
        | (apply step_ldx 1 5; (case hp => decide +kernel); (case hj => decide +kernel); (case he => decide +kernel); (case hoff => decide +kernel))
        | (apply step_ldx 1 6; (case hp => decide +kernel); (case hj => decide +kernel); (case he => decide +kernel); (case hoff => decide +kernel))
        | (apply step_ldx 1 7; (case hp => decide +kernel); (case hj => decide +kernel); (case he => decide +kernel); (case hoff => decide +kernel))
        | (apply step_ldx 2 0; (case hp => decide +kernel); (case hj => decide +kernel); (case he => decide +kernel); (case hoff => decide +kernel))
        | (apply step_ldx 2 1; (case hp => decide +kernel); (case hj => decide +kernel); (case he => decide +kernel); (case hoff => decide +kernel))
        | (apply step_ldx 2 2; (case hp => decide +kernel); (case hj => decide +kernel); (case he => decide +kernel); (case hoff => decide +kernel))
        | (apply step_ldx 2 3; (case hp => decide +kernel); (case hj => decide +kernel); (case he => decide +kernel); (case hoff => decide +kernel))
        | (apply step_ldx 2 4; (case hp => decide +kernel); (case hj => decide +kernel); (case he => decide +kernel); (case hoff => decide +kernel))
        | (apply step_ldx 2 5; (case hp => decide +kernel); (case hj => decide +kernel); (case he => decide +kernel); (case hoff => decide +kernel))
        | (apply step_ldx 2 6; (case hp => decide +kernel); (case hj => decide +kernel); (case he => decide +kernel); (case hoff => decide +kernel))
        | (apply step_ldx 2 7; (case hp => decide +kernel); (case hj => decide +kernel); (case he => decide +kernel); (case hoff => decide +kernel))
        | simp only [Prog.lift, Prog.bind_op, Prog.bind_ret, Prog.pure_eq_ret])
  apply step_ret <;> decide +kernel

end Cert.KernelIdeal.Hand

end
-- ==== Proof.Fund.lean ====
/-
  What the run is launched with: the cells of the transfers, funded before the kernel's own counters are at hand and opened at
  the kernel's entry, the tokens dealt to the devices that pay with them, the credit of the launch, and the scratch buffer
  taken apart into its slabs.
-/
module

public import proofs.«01_k».proof.Proof.Start

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The kernel's own semaphores -/

/-- The send semaphores, then the arrival ones. -/
def osem : Fin 42 ⊕ Fin 42 → SemLoc sig
  | .inl t => .dma (sendS t)
  | .inr t => .dma (recvS t)

theorem osem_inj : Function.Injective osem := by
  rintro (a | a) (b | b) h
  · exact congrArg Sum.inl (by rw [← tr_send a, ← tr_send b]; exact congrArg trOf h)
  · exact absurd (congrArg kindOf h) (by show kindOf (.dma (sendS a)) ≠ kindOf (.dma (recvS b)); rw [kind_send, kind_recv]; decide)
  · exact absurd (congrArg kindOf h) (by show kindOf (.dma (recvS a)) ≠ kindOf (.dma (sendS b)); rw [kind_send, kind_recv]; decide)
  · exact congrArg Sum.inr (by rw [← tr_recv a, ← tr_recv b]; exact congrArg trOf h)

theorem osem_ne_bar (k : Fin 42 ⊕ Fin 42) : osem k ≠ .reg barS := by rcases k with t | t <;> exact fun h => nomatch h

theorem own_facts : Pipeline.OwnSemFacts spec0 osem := by decide +kernel

theorem own_eq (c : Dev nD) : (Pipeline.ownSems0 osem c : sProp 𝕄)
    = iprop((bigSep Finset.univ fun t => semVal (sendCell t c) 0) ∗ bigSep Finset.univ fun t => semVal (recvCell t c) 0) :=
  bigSep_univ_sum _

/-! ## The cells and their tokens -/

def barAt : Dev nD ↪ GSem nD τ sig := ⟨fun c => barCell c, fun _ _ h => congrArg (fun g : GSem nD τ sig => g.1.1) h⟩
def ownAt : Dev nD × (Fin 42 ⊕ Fin 42) ↪ GSem nD τ sig :=
  ⟨fun p => ((p.1 : Thread nD τ), osem p.2), fun _ _ h => Prod.ext (congrArg (fun g : GSem nD τ sig => g.1.1) h) (osem_inj (congrArg Prod.snd h))⟩

/-- The barrier cells; the send and arrival cells. -/
abbrev barSet : Finset (GSem nD τ sig) := Finset.univ.map barAt
abbrev ownSet : Finset (GSem nD τ sig) := Finset.univ.map ownAt

theorem sets_disjoint : Disjoint (barSet : Finset (GSem nD τ sig)) ownSet := by
  rw [Finset.disjoint_left]
  rintro g h₁ h₂
  obtain ⟨c, -, rfl⟩ := Finset.mem_map.mp h₁
  obtain ⟨p, -, h⟩ := Finset.mem_map.mp h₂
  exact osem_ne_bar p.2 (congrArg Prod.snd h)

/-- The duties of a device's cells: one per transfer at each end, one per axis at the barrier. -/
def dutyAt : (Fin 42 ⊕ Fin 42) ⊕ Fin 3 → SemLoc sig × Fin 3
  | .inl k => (osem k, 0)
  | .inr a => (.reg barS, a)
theorem dutyAt_inj : Function.Injective dutyAt := by
  rintro (a | a) (b | b) h
  · exact congrArg Sum.inl (osem_inj (congrArg Prod.fst h))
  · exact absurd (congrArg Prod.fst h) (osem_ne_bar a)
  · exact absurd (congrArg Prod.fst h).symm (osem_ne_bar b)
  · exact congrArg Sum.inr (congrArg Prod.snd h)

def tokAt : Dev nD × ((Fin 42 ⊕ Fin 42) ⊕ Fin 3) ↪ GSem nD τ sig × ℕ × Fin 3 :=
  ⟨fun p => (((p.1 : Thread nD τ), (dutyAt p.2).1), 0, (dutyAt p.2).2), fun p q h =>
    Prod.ext (congrArg (fun x : GSem nD τ sig × ℕ × Fin 3 => x.1.1.1) h)
      (dutyAt_inj (Prod.ext (congrArg (fun x : GSem nD τ sig × ℕ × Fin 3 => x.1.2) h) (congrArg (fun x : GSem nD τ sig × ℕ × Fin 3 => x.2.2) h)))⟩
abbrev tokSet : Finset (GSem nD τ sig × ℕ × Fin 3) := Finset.univ.map tokAt

/-- Two conjunctions in either order. -/
theorem sep_swap {A B : Type} [Fintype A] [Fintype B] (Φ : A → B → sProp 𝕄) :
    (bigSep Finset.univ fun a => bigSep Finset.univ fun b => Φ a b) = bigSep Finset.univ fun b => bigSep Finset.univ fun a => Φ a b := by
  rw [← bigSep_univ_prod fun p : A × B => Φ p.1 p.2, bigSep_univ_equiv (Equiv.prodComm B A), bigSep_univ_prod]
  rfl

/-- All tokens, each with the device that pays with it. -/
theorem tok_deal : (bigSep tokSet fun x => (dutyTok ER x.1 x.2.1 x.2.2 : sProp 𝕄))
    ⊢ bigSep Finset.univ fun c : Dev nD => iprop(((bigSep Finset.univ fun t : Fin 42 => dutyTok ER (sendCell t c) 0 (0 : Fin 3))
        ∗ bigSep Finset.univ fun t : Fin 42 => dutyTok ER (recvCell t (pr (tAx t) c)) 0 (0 : Fin 3))
      ∗ bigSep Finset.univ fun a : Fin 3 => barTok c a) := by
  refine Entails.of_eq ?_
  rw [bigSep_map, bigSep_univ_prod]
  have e (c : Dev nD) : (bigSep Finset.univ fun k => (dutyTok ER (tokAt (c, k)).1 (tokAt (c, k)).2.1 (tokAt (c, k)).2.2 : sProp 𝕄))
      = iprop(((bigSep Finset.univ fun t : Fin 42 => dutyTok ER (sendCell t c) 0 (0 : Fin 3))
        ∗ bigSep Finset.univ fun t : Fin 42 => dutyTok ER (recvCell t c) 0 (0 : Fin 3))
      ∗ bigSep Finset.univ fun a : Fin 3 => dutyTok ER (barCell c) 0 a) := by
    rw [bigSep_univ_sum, bigSep_univ_sum]; rfl
  rw [bigSep_congr fun c _ => e c, bigSep_sep', bigSep_sep', bigSep_sep', bigSep_sep']
  congr 1
  · congr 1
    rw [sep_swap, sep_swap (Φ := fun (c : Dev nD) (t : Fin 42) => (dutyTok ER (recvCell t (pr (tAx t) c)) 0 (0 : Fin 3) : sProp 𝕄))]
    exact bigSep_congr fun t _ => bigSep_univ_equiv (ring (tAx t)) (fun c : Dev nD => (dutyTok ER (recvCell t c) 0 (0 : Fin 3) : sProp 𝕄))
  · rw [sep_swap, sep_swap (Φ := fun (c : Dev nD) (a : Fin 3) => (barTok c a : sProp 𝕄))]
    exact bigSep_congr fun a _ => bigSep_univ_equiv (ring a.val) (fun c : Dev nD => (dutyTok ER (barCell c) 0 a : sProp 𝕄))

/-! ## Opened and closed -/

section Cells

variable (X : Dev nD → S2048x1024.Idx → F .f32) (K : GSem nD τ sig → ℕ) (c : Dev nD)

/-- The invariants of the cells of transfer `t`. -/
def inv1 (t : Fin 42) : sProp 𝕄 :=
  iprop(cellInv ER (kRd X) (K (sendCell t c)) (sendCell t c)
    ∗ cellInv ER (kRd X) (K (recvCell t c)) (recvCell t c)
    ∗ cellInv ER (kRd X) (K (recvCell t (pr (tAx t) c))) (recvCell t (pr (tAx t) c)))
instance inv1_persistent (t : Fin 42) : BI.Persistent (inv1 X K c t) := by unfold inv1; infer_instance
/-- The records of a device before the kernel's entry. -/
def recs0 : sProp 𝕄 :=
  iprop((bigSep Finset.univ fun t : Fin 42 => inv1 X K c t) ∗ (bigSep Finset.univ fun a : Fin 3 => barRec X K c a)
    ∗ cellInv ER (kRd X) (K (barCell c)) (barCell c))
instance recs0_persistent : BI.Persistent (recs0 X K c) := by unfold recs0; infer_instance

/-- What a device holds of transfer `t` before the kernel's entry. -/
def dorm (t : Fin 42) : sProp 𝕄 :=
  iprop((openTok ER (sendCell t c) ∗ openTok ER (recvCell t c))
    ∗ (dutyTok ER (sendCell t c) 0 (0 : Fin 3) ∗ dutyTok ER (recvCell t (pr (tAx t) c)) 0 (0 : Fin 3))
    ∗ cred (tallyAt (recvCell t c) () (NT t)))

theorem open1 (t : Fin 42) : iprop(inv1 X K c t ∗ (dorm c t ∗ (semVal (sendCell t c) 0 ∗ semVal (recvCell t c) 0)))
    ⊢ (|={Set.univ}=> iprop(rec1 X K c t ∗ (tok1 c t ∗ rcvSt c 0 t)) : sProp 𝕄) := by
  unfold inv1 dorm rec1 tok1 rcvSt
  rw [if_neg (Nat.not_lt_zero _)]
  iintro ⟨⟨#HS, #HR, #HP⟩, ⟨⟨HoS, HoR⟩, ⟨HtS, HtR⟩, Hc⟩, Hs, Hr⟩
  imod (Rounds.cell_open ER (kRd X) (g := sendCell t c) (Set.mem_univ (K (sendCell t c)))) $$ [HoS Hs] with ⟨HaS, #HrS⟩
  · isplitr; · iexact HS
    isplitl [HoS] <;> iassumption
  imod (Rounds.cell_open ER (kRd X) (g := recvCell t c) (Set.mem_univ (K (recvCell t c)))) $$ [HoR Hr] with ⟨HaR, #HrR⟩
  · isplitr; · iexact HR
    isplitl [HoR] <;> iassumption
  imodintro
  isplitr
  · isplitr; · iexact HS
    isplitr; · iexact HR
    isplitr; · iexact HP
    isplitr; · iexact HrS
    iexact HrR
  isplitl [HaS HtS HtR]
  · isplitl [HaS]; · iexact HaS
    isplitl [HtS] <;> iassumption
  isplitl [HaR] <;> iassumption

theorem opened : (bigSep Finset.univ fun t => iprop(inv1 X K c t ∗ (dorm c t ∗ (semVal (sendCell t c) 0 ∗ semVal (recvCell t c) 0))))
    ⊢ (|={Set.univ}=> bigSep Finset.univ (fun t => iprop(rec1 X K c t ∗ (tok1 c t ∗ rcvSt c 0 t))) : sProp 𝕄) :=
  (bigSep_mono fun t _ => open1 X K c t).trans (bigSep_fupd Finset.univ _)

theorem open_all : iprop(recs0 X K c ∗ (bigSep Finset.univ fun t => dorm c t) ∗ Pipeline.ownSems0 osem c ∗ levAts L lv)
    ⊢ (|={Set.univ}=> iprop(recs X K c ∗ (bigSep Finset.univ fun t => tok1 c t) ∗ bigSep Finset.univ fun t => rcvSt c 0 t) : sProp 𝕄) := by
  rw [own_eq]
  unfold recs0 recs
  iintro ⟨⟨H1, #HB, #HI⟩, HD, ⟨Hs, Hr⟩, #HL⟩
  ihave Hv := (Entails.of_eq (bigSep_sep' Finset.univ (fun t => (semVal (sendCell t c) 0 : sProp 𝕄)) (fun t => semVal (recvCell t c) 0)).symm) $$ [Hs Hr]
  · isplitl [Hs] <;> iassumption
  ihave HD := (Entails.of_eq (bigSep_sep' Finset.univ (fun t => (dorm c t : sProp 𝕄)) (fun t => iprop(semVal (sendCell t c) 0 ∗ semVal (recvCell t c) 0))).symm) $$ [HD Hv]
  · isplitl [HD] <;> iassumption
  ihave H := (Entails.of_eq (bigSep_sep' Finset.univ (fun t => (inv1 X K c t : sProp 𝕄)) _).symm) $$ [H1 HD]
  · isplitl [H1] <;> iassumption
  ihave H := (opened X K c) $$ H
  imod H with H
  imodintro
  ihave H := (Entails.of_eq (bigSep_sep' Finset.univ (fun t => (rec1 X K c t : sProp 𝕄)) _)) $$ H
  icases H with ⟨Ha, H⟩
  ihave H := (Entails.of_eq (bigSep_sep' Finset.univ (fun t => (tok1 c t : sProp 𝕄)) _)) $$ H
  icases H with ⟨Hb, Hc⟩
  isplitl [Ha]
  · isplitl [Ha]; · iexact Ha
    isplitr; · iexact HB
    isplitr; · iexact HI
    iexact HL
  isplitl [Hb] <;> iassumption

theorem close1 (t : Fin 42) : iprop(rec1 X K c t ∗ (atPos ER (sendCell t c) 1 ∅ 0 ∗ atPos ER (recvCell t c) 1 ∅ 0))
    ⊢ (|={Set.univ}=> iprop(semVal (sendCell t c) 0 ∗ semVal (recvCell t c) 0) : sProp 𝕄) := by
  unfold rec1
  iintro ⟨⟨#HS, #HR, -⟩, Hs, Hr⟩
  imod (Rounds.cell_close ER (kRd X) (g := sendCell t c) (Set.mem_univ (K (sendCell t c))) id (duties_later X (sendCell t c))) $$ [Hs] with HS'
  · isplitr; · iexact HS
    iexact Hs
  imod (Rounds.cell_close ER (kRd X) (g := recvCell t c) (Set.mem_univ (K (recvCell t c))) id (duties_later X (recvCell t c))) $$ [Hr] with HR'
  · isplitr; · iexact HR
    iexact Hr
  imodintro
  isplitl [HS'] <;> iassumption

theorem closed : (bigSep Finset.univ fun t => iprop(rec1 X K c t ∗ (atPos ER (sendCell t c) 1 ∅ 0 ∗ atPos ER (recvCell t c) 1 ∅ 0)))
    ⊢ (|={Set.univ}=> bigSep Finset.univ (fun t => iprop(semVal (sendCell t c) 0 ∗ semVal (recvCell t c) 0)) : sProp 𝕄) :=
  (bigSep_mono fun t _ => close1 X K c t).trans (bigSep_fupd Finset.univ _)

theorem close_all : iprop(recs X K c ∗ atPos ER (barCell c) 1 ∅ 0 ∗ (bigSep Finset.univ fun t => atPos ER (sendCell t c) 1 ∅ 0)
      ∗ (bigSep Finset.univ fun t => atPos ER (recvCell t c) 1 ∅ 0))
    ⊢ (|={Set.univ}=> iprop(semVal (barCell c) 0 ∗ Pipeline.ownSems0 osem c) : sProp 𝕄) := by
  rw [own_eq]
  unfold recs
  iintro ⟨⟨H1, -, #HI, -⟩, Hb, Hs, Hr⟩
  ihave Hv := (Entails.of_eq (bigSep_sep' Finset.univ (fun t => (atPos ER (sendCell t c) 1 ∅ 0 : sProp 𝕄)) (fun t => atPos ER (recvCell t c) 1 ∅ 0)).symm) $$ [Hs Hr]
  · isplitl [Hs] <;> iassumption
  ihave H := (Entails.of_eq (bigSep_sep' Finset.univ (fun t => (rec1 X K c t : sProp 𝕄)) _).symm) $$ [H1 Hv]
  · isplitl [H1] <;> iassumption
  ihave H := (closed X K c) $$ H
  imod H with H
  imod (Rounds.cell_close ER (kRd X) (g := barCell c) (Set.mem_univ (K (barCell c))) id (duties_later X (barCell c))) $$ [Hb] with HB
  · isplitr; · iexact HI
    iexact Hb
  imodintro
  isplitl [HB]; · iexact HB
  iapply (Entails.of_eq (bigSep_sep' Finset.univ (fun t => (semVal (sendCell t c) 0 : sProp 𝕄)) (fun t => semVal (recvCell t c) 0)))
  iexact H

end Cells

/-! ## The scratch buffer in slabs -/

theorem slab_disjoint (i : Fin 66) (_ : i ∈ Finset.univ) (j : Fin 66) (_ : j ∈ Finset.univ) (h : i ≠ j) : Disjoint (slabSet i) (slabSet j) := by
  rw [Finset.disjoint_left]
  intro z hi hj
  rw [mem_slabSet] at hi hj
  exact h (Fin.ext (hi.1.symm.trans hj.1))

/-- The elements of the scratch buffer in no slab. -/
def restPt (c : Dev nD) (f : Buf (Elt F) ((c : Thread nD τ).loc cc0_scratch0)) : sProp 𝕄 :=
  (c : Thread nD τ).loc cc0_scratch0 ↦[Finset.univ \ Finset.univ.biUnion slabSet]{fullShare} f

theorem slabs_eq (c : Dev nD) (f : Buf (Elt F) ((c : Thread nD τ).loc cc0_scratch0)) :
    ((c : Thread nD τ).loc cc0_scratch0 ↦[Finset.univ.biUnion slabSet]{fullShare} f : sProp 𝕄) = bigSep Finset.univ fun i => slabPt c i fullShare f :=
  pointsTo_biUnion (ℓ := (c : Thread nD τ).loc cc0_scratch0) (q := fullShare) (f := f) Finset.univ slabSet slab_disjoint

theorem scr_split (c : Dev nD) (f : Buf (Elt F) ((c : Thread nD τ).loc cc0_scratch0)) :
    ((c : Thread nD τ).loc cc0_scratch0 ↦{fullShare} f : sProp 𝕄) ⊢ iprop((bigSep Finset.univ fun i => slabPt c i fullShare f) ∗ restPt c f) := by
  refine (pointsTo_split_subset (Finset.subset_univ (Finset.univ.biUnion slabSet))).1.trans ?_
  rw [slabs_eq]
  exact .rfl

theorem scr_join (c : Dev nD) (f g : Buf (Elt F) ((c : Thread nD τ).loc cc0_scratch0)) :
    iprop((bigSep Finset.univ fun i => slabPt c i fullShare g) ∗ restPt c f) ⊢ (iprop(∃ f, (c : Thread nD τ).loc cc0_scratch0 ↦{fullShare} f) : sProp 𝕄) := by
  rw [← slabs_eq]
  refine (pointsTo_join_subset (Finset.subset_univ (Finset.univ.biUnion slabSet))).trans ?_
  iintro H; iexists _; iexact H

/-! ## The credit of the launch -/

theorem cell_eq {c d : Dev nD} {s s' : SemLoc sig} : (((c : Thread nD τ), s) : GSem nD τ sig) = ((d : Thread nD τ), s') ↔ c = d ∧ s = s' :=
  ⟨fun h => ⟨congrArg (fun g : GSem nD τ sig => g.1.1) h, congrArg Prod.snd h⟩, fun h => by rw [h.1, h.2]⟩
theorem pr_iff (a : ℕ) (c d : Dev nD) : c = pr a d ↔ d = pr a c :=
  ⟨fun h => by rw [h, pr_pr], fun h => by rw [h, pr_pr]⟩

theorem recv_ne_bar (t : Fin 42) : (SemLoc.dma (recvS t) : SemLoc sig) ≠ .reg barS := osem_ne_bar (.inr t)

theorem owed_bar (d c : Dev nD) : O₀ d (barCell c) () = (if d = pr 2 c then 1 else 0) + (if d = pr 1 c then 1 else 0) + (if d = pr 0 c then 1 else 0) := by
  have h0 : Ow d 0 (barCell c) () = 0 := Nat.eq_zero_of_not_pos fun h => by
    obtain ⟨t, -, e⟩ := Ow_pos h
    exact recv_ne_bar _ (cell_eq.mp e).2.symm
  have h (a : ℕ) : (tallyAt (barCell (pr a d)) () 1 : CellTallies nD τ sig Unit) (barCell c) () = if d = pr a c then 1 else 0 := by
    rw [tallyAt_apply]
    refine if_congr ?_ rfl rfl
    rw [cell_eq, pr_iff]
    exact ⟨fun h => h.1.1, fun h => ⟨⟨h, rfl⟩, rfl⟩⟩
  unfold O₀
  simp only [Pi.add_apply, Finsupp.add_apply, h0, h, Nat.zero_add]

theorem owed_recv (t : Fin 42) (d c : Dev nD) : O₀ d (recvCell t c) () = if d = pr (tAx t) c then NT t else 0 := by
  have h (a : ℕ) : (tallyAt (barCell (pr a d)) () 1 : CellTallies nD τ sig Unit) (recvCell t c) () = 0 := by
    rw [tallyAt_apply, if_neg fun h => recv_ne_bar t (cell_eq.mp h.1).2]
  unfold O₀
  simp only [Pi.add_apply, Finsupp.add_apply, h, Nat.add_zero]
  unfold Ow
  rw [Finset.sum_apply, Finsupp.finset_sum_apply, Finset.sum_eq_single t]
  · rw [if_pos (Nat.zero_le _), owe1, tallyAt_apply]
    refine if_congr ?_ rfl rfl
    rw [cell_eq, pr_iff]
    exact ⟨fun h => h.1.1, fun h => ⟨⟨h, rfl⟩, rfl⟩⟩
  · intro u _ hu
    rw [if_pos (Nat.zero_le _), owe1, tallyAt_apply, if_neg]
    intro h
    exact hu (by rw [← tr_recv u, ← tr_recv t]; exact congrArg trOf (cell_eq.mp h.1).2.symm)
  · exact fun h => absurd (Finset.mem_univ _) h

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq', Finset.sum_ite_eq', Finset.sum_ite_eq', if_pos (Finset.mem_univ _), if_pos (Finset.mem_univ _), if_pos (Finset.mem_univ _)]

theorem launch_recv (t : Fin 42) (c : Dev nD) :
    tallyOn (recvCell t c) (launchCredit (Pipeline.owing O₀) 0 (recvCell t c)) = (tallyAt (recvCell t c) () (NT t) : CellTallies nD τ sig Unit) := by
  unfold tallyAt; refine congrArg _ (Finsupp.ext fun u => ?_); cases u
  rw [Pipeline.launchCredit_owing, Finsupp.single_eq_same, Finset.sum_congr rfl fun d _ => owed_recv t d c, Finset.sum_ite_eq', if_pos (Finset.mem_univ _)]

/-- A device's credit: a unit from each neighbour at its barrier cell, and each arrival. -/
theorem creds (c : Dev nD) : (Pipeline.launchCred O₀ c : sProp 𝕄)
    ⊢ iprop(cred (tallyAt (barCell c) () 3) ∗ bigSep Finset.univ fun t : Fin 42 => cred (tallyAt (recvCell t c) () (NT t))) := by
  unfold Pipeline.launchCred
  rw [bigSep_univ_at _ (SemLoc.reg barS), launch_bar]
  refine sep_mono_right ?_
  have hsub : Finset.univ.image (fun t : Fin 42 => (SemLoc.dma (recvS t) : SemLoc sig)) ⊆ Finset.univ.erase (SemLoc.reg barS) := fun s hs => by
    obtain ⟨t, -, rfl⟩ := Finset.mem_image.mp hs
    exact Finset.mem_erase.mpr ⟨recv_ne_bar t, Finset.mem_univ _⟩
  refine (bigSep_subset hsub).trans ?_
  rw [bigSep_image_of_injOn fun a _ b _ h => by rw [← tr_recv a, ← tr_recv b]; exact congrArg trOf h]
  exact mono_eq fun t _ => by rw [← launch_recv]

end Cert.KernelIdeal.Hand

end
-- ==== Proof.Launch.lean ====
/-
  The parts of the run: the reshape before the kernel and the kernel's region with its body.
-/
module

public import proofs.«01_k».proof.Proof.Body
public import proofs.«01_k».proof.Proof.Fund
public import proofs.«01_k».proof.Proof.Gen.KernelIdeal.Frame
public import Idealize.ShloMosaic.Lib.Pipeline.Regions

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf ucRefs unscopedBufs_held sub_ucRefs)

variable {F : FTy → Type} [FloatOps F]

local notation "𝕄" => MT nD τ sig Unit (Elt F) ℕ UU ℕ

variable (m : (ℓ : Loc nD τ sig) → Buf (Elt F) ℓ) (ρ : Dev nD → PrngReg)

/-! ## The windows -/

/-- What each device's kernel is given: its argument, reshaped. -/
def Xs (c : Dev nD) : S2048x1024.Idx → F .f32 := V m c main_v1

/-- Each window's block is its whole array. -/
theorem blk0_emb (y : S2048x1024.Idx) : (win0_0.blk t0_0).view.emb y = y := by
  funext a
  apply Fin.ext
  have h : (((win0_0.blk t0_0).view.emb y) a).val = 0 * _ + 1 * (y a).val := rfl
  rw [h]; omega
theorem blk1_emb (y : S2048x1024.Idx) : (win0_1.blk t0_0).view.emb y = y := by
  funext a
  apply Fin.ext
  have h : (((win0_1.blk t0_0).view.emb y) a).val = 0 * _ + 1 * (y a).val := rfl
  rw [h]; omega

theorem read0 (f : S2048x1024.Idx → F .f32) : (win0_0.blk t0_0).view.read (Elt F) f = f := by
  funext y
  rw [View.read_apply]
  exact congrArg f (blk0_emb y)
theorem read1 (f : S2048x1024.Idx → F .f32) : (win0_1.blk t0_0).view.read (Elt F) f = f := by
  funext y
  rw [View.read_apply]
  exact congrArg f (blk1_emb y)

/-! ## The region's proof data -/

/-- What enters the body beside the windows: the cells open, the barrier's and the arrivals' credit, the tokens, the scratch buffer. -/
def Enter (c : Dev nD) : sProp 𝕄 :=
  iprop(∃ K, recs (Xs m) K c ∗ atPos ER (barCell c) 0 ∅ 0 ∗ cred (tallyAt (barCell c) () 3)
    ∗ (bigSep Finset.univ fun a : Fin 3 => barTok c a) ∗ (bigSep Finset.univ fun t => tok1 c t) ∗ bigSep Finset.univ fun t => rcvSt c 0 t)
/-- The scratch buffer, at contents of no account. -/
def scrAny (c : Dev nD) : sProp 𝕄 := iprop(∃ f : Buf (Elt F) ((c : Thread nD τ).loc cc0_scratch0), (c : Thread nD τ).loc cc0_scratch0 ↦{fullShare} f)

def phi0 (c : Dev nD) : sProp 𝕄 := iprop(Enter m c ∗ scrAny c)
def phi1 (c : Dev nD) : sProp 𝕄 := iprop((semVal (barCell c) 0 ∗ Pipeline.ownSems0 osem c) ∗ scrAny (F := F) c)

def dats (_ : Fin 1) (c : Dev nD) : Dat τ (Elt F) Unit ℕ UU ℕ cfg0 c where
  A w := V m c (Pipeline.arrRef spec0 w)
  after w _ := match w with
    | ⟨0, _⟩ => Xs m c
    | ⟨1, _⟩ => outC (Xs m)
  Φ t := if t.val = 0 then phi0 m c else phi1 c
  q _ := fullShare
  owed t := if t.val = 0 then O₀ c else 0

theorem A_eq (c : Dev nD) (w : Fin cfg0.W) : (dats m 0 c).A w = V m c (Pipeline.arrRef spec0 w) := by
  dsimp only [dats]

theorem before_in (c : Dev nD) (d : (cfg0.win 0).block.Idx → Elt F (cfg0.win 0).elt) : (dats m 0 c).before 0 t0_0 d = Xs m c := by
  unfold Dat.before; rw [if_pos (fetch0_0 _)]
  exact read0 (Xs m c)

theorem owed_first (c : Dev nD) : (dats (F := F) m 0 c).owed t0_0.castSucc = O₀ c := by
  show (if (t0_0.castSucc : Fin (grid0.N + 1)).val = 0 then O₀ c else 0) = O₀ c; exact if_pos rfl
theorem owed_zero (c : Dev nD) : (dats (F := F) m 0 c).owed 0 = O₀ c := by
  show (if (0 : Fin (grid0.N + 1)).val = 0 then O₀ c else 0) = O₀ c; exact if_pos rfl
theorem owed_next (c : Dev nD) : (dats (F := F) m 0 c).owed t0_0.succ = 0 := by
  show (if (t0_0.succ : Fin (grid0.N + 1)).val = 0 then O₀ c else 0) = 0; exact if_neg (by rw [Fin.val_succ]; omega)
theorem owed_last (c : Dev nD) : (dats (F := F) m 0 c).owed (Fin.last cfg0.N) = 0 := by
  show (if (Fin.last grid0.N).val = 0 then O₀ c else 0) = 0
  rw [Fin.val_last, if_neg (by rw [N_0]; decide)]
theorem phi_first (c : Dev nD) : (dats (F := F) m 0 c).Φ t0_0.castSucc = phi0 m c := by
  show (if (t0_0.castSucc : Fin (grid0.N + 1)).val = 0 then phi0 m c else phi1 c) = _; exact if_pos rfl
theorem phi_zero (c : Dev nD) : (dats (F := F) m 0 c).Φ 0 = phi0 m c := by
  show (if (0 : Fin (grid0.N + 1)).val = 0 then phi0 m c else phi1 c) = _; exact if_pos rfl
theorem phi_next (c : Dev nD) : (dats (F := F) m 0 c).Φ t0_0.succ = phi1 c := by
  show (if (t0_0.succ : Fin (grid0.N + 1)).val = 0 then phi0 m c else phi1 c) = _; exact if_neg (by rw [Fin.val_succ]; omega)
theorem phi_last (c : Dev nD) : (dats (F := F) m 0 c).Φ (Fin.last cfg0.N) = phi1 c := by
  show (if (Fin.last grid0.N).val = 0 then phi0 m c else phi1 c) = _
  rw [Fin.val_last, if_neg (by rw [N_0]; decide)]

/-! ## The body obligation -/

/-- The body from what the pipeline hands it, the cells closed at its end. -/
theorem body_at (c : Dev nD) (hx ho hs) (W : Waits sig Unit) (fo : Buf (Elt F) ((c : Thread nD τ).loc cc0_stg1_0)) :
    iprop(phi0 m c ∗ owes (c : Thread nD τ) (O₀ c) W ∗ xPt (Xs m) c ∗ (c : Thread nD τ).loc cc0_stg1_0 ↦{fullShare} fo)
      ⊢ wpB c (cc0_body (F := F) xM hx oM ho scrM hs cc0_scratch1 cc0_scratch2) (fun _ => iprop(phi1 c ∗ (∃ W, owes (c : Thread nD τ) 0 W)
        ∗ xPt (Xs m) c ∗ (c : Thread nD τ).loc cc0_stg1_0 ↦{fullShare} (outC (Xs m) : Buf (Elt F) ((c : Thread nD τ).loc cc0_stg1_0)))) := by
  unfold phi0 Enter scrAny
  iintro ⟨⟨⟨%K, #HR, Hb, Hc, HT, Ht, Hr⟩, ⟨%f, Hs⟩⟩, HO, Hx, Ho⟩
  ihave Hs := (scr_split c f) $$ Hs
  icases Hs with ⟨Hs, Hrest⟩
  have hend : iprop(Done (Xs m) K c ∗ restPt c f) ⊢ (|={Set.univ}=> iprop(phi1 c ∗ (∃ W, owes (c : Thread nD τ) 0 W)
        ∗ xPt (Xs m) c ∗ (c : Thread nD τ).loc cc0_stg1_0 ↦{fullShare} (outC (Xs m) : Buf (Elt F) ((c : Thread nD τ).loc cc0_stg1_0))) : sProp 𝕄) := by
    unfold Done After phi1
    iintro ⟨⟨⟨HO, Hs, Hr, Hsl, Hx, Ho⟩, HR, Hb⟩, Hrest⟩
    imod (close_all (Xs m) K c) $$ [HR Hb Hs Hr] with Hz
    · isplitl [HR]; · iexact HR
      isplitl [Hb]; · iexact Hb
      isplitl [Hs] <;> iassumption
    imodintro
    isplitl [Hz Hsl Hrest]
    · isplitl [Hz]; · iexact Hz
      unfold scrAny
      iapply (scr_join c f (slabF (Xs m) c))
      isplitl [Hsl] <;> iassumption
    isplitl [HO]; · iexact HO
    isplitl [Hx] <;> iassumption
  have hslab1 (i : Fin 66) : (slabPt c i fullShare f : sProp 𝕄) ⊢ iprop(∃ f, slabPt c i fullShare f) := by iintro H; iexists f; iexact H
  have hslab : (bigSep Finset.univ fun i => (slabPt c i fullShare f : sProp 𝕄)) ⊢ bigSep Finset.univ fun i => iprop(∃ f, slabPt c i fullShare f) :=
    bigSep_mono fun i _ => hslab1 i
  have hstart : iprop(recs (Xs m) K c ∗ owes (c : Thread nD τ) (O₀ c) W ∗ atPos ER (barCell c) 0 ∅ 0 ∗ cred (tallyAt (barCell c) () 3)
      ∗ (bigSep Finset.univ fun a : Fin 3 => barTok c a) ∗ (bigSep Finset.univ fun t => tok1 c t) ∗ (bigSep Finset.univ fun t => rcvSt c 0 t)
      ∗ (bigSep Finset.univ fun i => slabPt c i fullShare f) ∗ xPt (Xs m) c ∗ (c : Thread nD τ).loc cc0_stg1_0 ↦{fullShare} fo) ⊢ Start (Xs m) K c := by
    unfold Start outSt
    iintro ⟨HR, HO, Hb, Hc, HT, Ht, Hr, Hs, Hx, Ho⟩
    isplitl [HR]; · iexact HR
    isplitl [HO]; · iexists W; iexact HO
    isplitl [Hb]; · iexact Hb
    isplitl [Hc]; · iexact Hc
    isplitl [HT]; · iexact HT
    isplitl [Ht]; · iexact Ht
    isplitl [Hr]; · iexact Hr
    isplitl [Hs]; · iapply hslab; iexact Hs
    isplitl [Hx]; · iexact Hx
    iexists fo
    isplitr
    · ipureintro; intro i hi; exact absurd hi List.not_mem_nil
    iexact Ho
  ihave HS := hstart $$ [HO Hb Hc HT Ht Hr Hs Hx Ho]
  · isplitr; · iexact HR
    isplitl [HO]; · iexact HO
    isplitl [Hb]; · iexact Hb
    isplitl [Hc]; · iexact Hc
    isplitl [HT]; · iexact HT
    isplitl [Ht]; · iexact Ht
    isplitl [Hr]; · iexact Hr
    isplitl [Hs]; · iexact Hs
    isplitl [Hx] <;> iassumption
  ihave HW := (body_run (Xs m) K c hx ho hs) $$ HS
  unfold wpB
  iapply (wp_fupd frame (wpE (defs₀ (F := F)) 𝒱₀ (c : Thread nD τ) none) Set.univ)
  iapply (wp_mono frame (wpE (defs₀ (F := F)) 𝒱₀ (c : Thread nD τ) none) Set.univ (fun _ => hend))
  iapply (wp_frame_r frame (wpE (defs₀ (F := F)) 𝒱₀ (c : Thread nD τ) none) Set.univ (Q := fun _ => Done (Xs m) K c) (R := restPt c f))
  isplitl [HW] <;> iassumption

/-- The program the pipeline runs at its one point. -/
theorem body_prog : (defs₀ (F := F)) .tc cfg0.body (cfg0.bodyArgs t0_0 (cfg0.slots t0_0))
    = cc0_body xM (hstage0_0 0) oM (hstage0_1 0) scrM (Memref.isWhole_whole _) cc0_scratch1 cc0_scratch2 := rfl

/-- What the pipeline asks of the body at its one point. -/
theorem body_obligation (c : Dev nD) : BodyObligation (dats m 0 c) (defs₀ (F := F)) 𝒱₀ () Set.univ := fun t => by
  obtain rfl := fin_N0 t
  rw [bigSep_W0, bigSep_W0]
  simp only [owns_whole_eq]
  rw [phi_first, phi_next]
  unfold Dat.owesAt Pipeline.owesWithin
  rw [owed_first, owed_next]
  iintro ⟨HΦ, ⟨%W, %hW, HO⟩, ⟨%d0, %f0, %hf0, H0⟩, ⟨%d1, %f1, %hf1, H1⟩⟩
  rw [before_in] at hf0
  subst hf0
  ihave HB := (body_at m c (hstage0_0 0) (hstage0_1 0) (Memref.isWhole_whole _) W f1) $$ [HΦ HO H0 H1]
  · isplitl [HΦ]; · iexact HΦ
    isplitl [HO]; · iexact HO
    isplitl [H0] <;> iassumption
  unfold wpB
  rw [body_prog]
  iapply (wp_wand_r frame (wpE (defs₀ (F := F)) 𝒱₀ (c : Thread nD τ) none) Set.univ)
  isplitl [HB]; · iexact HB
  iintro %a
  iintro ⟨HΦ, ⟨%W', HO⟩, H0, H1⟩
  isplitl [HΦ]; · iexact HΦ
  isplitl [HO]
  · iexists W'; isplitr; · ipureintro; exact fun _ _ => Or.inl trivial
    iexact HO
  isplitl [H0]
  · iexists _; isplitr; swap; (· iexact H0); ipureintro; dsimp only [dats]
  iexists _; isplitr; swap; (· iexact H1); ipureintro; dsimp only [dats]

/-! ## The segments of the program -/

abbrev V₀ (c : Dev nD) : Valuation τ sig (Elt F) := fun b => m ((c : Dev nD), b)
abbrev adm : (p : Fin 1) → (pcfgs (F := F) p).Adm := fun p => (cfgs p).toPCfg_adm

/-- The cells and tokens of a device from the launch to the kernel's entry. -/
def Before (c : Dev nD) : sProp 𝕄 :=
  iprop(∃ K, recs0 (Xs m) K c ∗ atPos ER (barCell c) 0 ∅ 0 ∗ cred (tallyAt (barCell c) () 3)
    ∗ (bigSep Finset.univ fun a : Fin 3 => barTok c a) ∗ bigSep Finset.univ fun t => dorm c t)
/-- What rides beside the buffers through the reshape. -/
def Ride (c : Dev nD) : sProp 𝕄 := iprop(Before m c ∗ ∃ W, owes (c : Thread nD τ) (O₀ c) W)

def seg0 : Pipeline.HostSeg (Name := ℕ) (U := UU) (pcfgs (F := F)) defs₀ 𝒱₀ L lv :=
  Pipeline.HostSeg.ofOps _ _ _ _ _ (ucRefs τ sig) hostOps0 (fun op h => sub_ucRefs op ((List.forall_iff_forall_mem.mp hostOps0_sub) op h))
    (fun op h => (List.forall_iff_forall_mem.mp hostOps0_fresh) op h) (V₀ m) (Ride m)

/-- What the region leaves. -/
abbrev Last (c : Dev nD) : sProp 𝕄 :=
  iprop(((dats m 0 c).arrays ((dats m 0 c).arrAt · cfg0.N) ∗ (((c : Thread nD τ).loc main_arg0) ↦{fullShare} V m c main_arg0)) ∗ semVal (barCell c) 0)

theorem bar_pos {d : Dev nD} {g : GSem nD τ sig} {u : Unit} (h : 0 < (tallyAt (barCell d) () 1 : CellTallies nD τ sig Unit) g u) : g = barCell d := by
  by_contra hn
  rw [tallyAt_apply, if_neg fun h => hn h.1] at h
  exact Nat.lt_irrefl 0 h

/-- What a device owes at launch is owed to barrier and arrival cells. -/
theorem O₀_pos {c : Dev nD} {g : GSem nD τ sig} {u : Unit} (h : 0 < O₀ c g u) : (∃ d, g = barCell d) ∨ ∃ u d, g = recvCell u d := by
  unfold O₀ at h
  rw [Pi.add_apply, Finsupp.add_apply] at h
  rcases Nat.add_pos_iff_pos_or_pos.mp h with h | h
  swap; · exact .inl ⟨_, bar_pos h⟩
  rw [Pi.add_apply, Finsupp.add_apply] at h
  rcases Nat.add_pos_iff_pos_or_pos.mp h with h | h
  swap; · exact .inl ⟨_, bar_pos h⟩
  rw [Pi.add_apply, Finsupp.add_apply] at h
  rcases Nat.add_pos_iff_pos_or_pos.mp h with h | h
  swap; · exact .inl ⟨_, bar_pos h⟩
  obtain ⟨v, -, e⟩ := Ow_pos h
  exact .inr ⟨v, _, e⟩

/-- A staging wait lies below everything owed. -/
theorem wait_stage (c : Dev nD) (s : SemLoc sig) (hs : kindOf s = 0) (t : Fin (cfg0.N + 1)) :
    (levAts L lv : sProp 𝕄) ⊢ MayWait (c : Thread nD τ) s () ((dats (F := F) m 0 c).owed t) := by
  have hpos (g : GSem nD τ sig) (u : Unit) (h : 0 < (dats (F := F) m 0 c).owed t g u) : (∃ d, g = barCell d) ∨ ∃ u d, g = recvCell u d := by
    have e : (dats (F := F) m 0 c).owed t = if t.val = 0 then O₀ c else 0 := rfl
    rw [e] at h
    by_cases ht : t.val = 0
    · rw [if_pos ht] at h; exact O₀_pos h
    · rw [if_neg ht] at h; exact absurd h (Nat.lt_irrefl 0)
  exact MayOwe.of_cut (L := L) (lev := lv) 0
    (fun p hp => by rw [Finset.mem_singleton.mp hp, L_tc]; exact Finset.mem_singleton_self _)
    (fun g u hg => by rcases hpos g u hg with ⟨d, rfl⟩ | ⟨v, d, rfl⟩ <;> (rw [L_tc]; exact Finset.mem_singleton_self _))
    (fun p hp => by rw [Finset.mem_singleton.mp hp]; show lv ((c : Thread nD τ), s) () ≤ 0; unfold lv; rw [hs]; exact Nat.le_refl 0)
    (fun g u hg => by rcases hpos g u hg with ⟨d, rfl⟩ | ⟨v, d, rfl⟩; (· rw [lv_bar]; decide); rw [lv_recv]; omega)

theorem waits (c : Dev nD) : (levAts L lv : sProp 𝕄) ⊢ Pipeline.cellsWaits (Pipeline.pin (pcfgs (F := F)) adm) (dats m) () 0 c :=
  Pipeline.cellsWaits_intro (Pipeline.pin (pcfgs (F := F)) adm) (dats m) () 0 c fun w s t =>
    wait_stage m c _ (by fin_cases w <;> fin_cases s <;> rfl) t

theorem owesAt_intro (c : Dev nD) (t : Fin (cfg0.N + 1)) (O : CellTallies nD τ sig Unit) (h : (dats (F := F) m 0 c).owed t = O) :
    (iprop(∃ W, owes (c : Thread nD τ) O W) : sProp 𝕄) ⊢ (dats m 0 c).owesAt () t := by
  unfold Dat.owesAt Pipeline.owesWithin; rw [h]
  iintro ⟨%W, HO⟩; iexists W; isplitr; · ipureintro; exact fun _ _ => Or.inl trivial
  iexact HO
theorem owesAt_elim (c : Dev nD) (t : Fin (cfg0.N + 1)) (O : CellTallies nD τ sig Unit) (h : (dats (F := F) m 0 c).owed t = O) :
    ((dats m 0 c).owesAt () t : sProp 𝕄) ⊢ iprop(∃ W, owes (c : Thread nD τ) O W) := by
  unfold Dat.owesAt Pipeline.owesWithin; rw [h]
  iintro ⟨%W, -, HO⟩; iexists W; iexact HO

theorem enter (c : Dev nD) : iprop(Before m c ∗ Pipeline.ownSems0 osem c ∗ levAts L lv) ⊢ (|={Set.univ}=> Enter m c : sProp 𝕄) := by
  unfold Before Enter
  iintro ⟨⟨%K, HR, Hb, Hc, HT, HD⟩, Hs, HL⟩
  imod (open_all (Xs m) K c) $$ [HR HD Hs HL] with ⟨HR, Ht, Hr⟩
  · isplitl [HR]; · iexact HR
    isplitl [HD]; · iexact HD
    isplitl [Hs] <;> iassumption
  imodintro
  iexists K
  isplitl [HR]; · iexact HR
  isplitl [Hb]; · iexact Hb
  isplitl [Hc]; · iexact Hc
  isplitl [HT]; · iexact HT
  isplitl [Ht] <;> iassumption

set_option backward.isDefEq.respectTransparency.types false in
/-- The kernel's region. -/
def reg0 : Pipeline.RegionSeg (pcfgs (F := F)) adm (dats m) () defs₀ 𝒱₀ L lv 0 where
  win := launch0.win.to₀
  block_pos := launch0.block_pos
  stage_whole := launch0.stage_whole
  K := Fin 42 ⊕ Fin 42
  osem := osem
  ho := own_facts
  hbody c := (body_obligation m c).loose
  hwaits := waits m
  pre c := iprop(StableHlo.held (c : Thread nD τ) (ucRefs τ sig) (StableHlo.after hostOps0 (V₀ m c)) ∗ Ride m c)
  post c := iprop(Last m c ∗ ∃ W, owes (c : Thread nD τ) (0 : CellTallies nD τ sig Unit) W)
  X c := Enter m c
  Y c := semVal (barCell c) 0
  Z c := ((c : Thread nD τ).loc main_arg0) ↦{fullShare} V m c main_arg0
  hentry c := by
    rw [show StableHlo.held (c : Thread nD τ) (ucRefs τ sig) (StableHlo.after hostOps0 (V₀ m c)) = unscopedBufs c (V m c) from (unscopedBufs_held c _).symm]
    have hsplit := (Pipeline.arrays_of_unscopedBufs (pcfgs (F := F)) adm (dats m) launch0.win launch0.arr_whole c
      ((dats m 0 c).share_full fun _ => rfl) (V m c) (A_eq m c)).trans (sep_mono .rfl (Entails.of_eq (unscopedRest0_eq c (V m c))))
    unfold Ride
    iintro ⟨⟨Hub, HB, HO⟩, Hos, HL⟩
    ihave H := hsplit $$ Hub
    icases H with ⟨Ha, H1⟩
    imod (enter m c) $$ [HB Hos HL] with HX
    · isplitl [HB]; · iexact HB
      isplitl [Hos] <;> iassumption
    imodintro
    isplitl [Ha]; · iexact Ha
    isplitr; · unfold Pipeline.prefHeld; rw [show (Finset.univ : Finset (Fin 0)) = ∅ from rfl, BI.bigSep_empty]; iempintro
    isplitl [HO]; · iapply (owesAt_intro m c 0 (O₀ c) (owed_zero m c)); iexact HO
    isplitl [HX] <;> iassumption
  hin c := by
    rw [phi_zero m c, scopedRest0_eq]; unfold phi0 scrAny
    iintro ⟨HX, -, Hr⟩
    isplitl [HX] <;> iassumption
  hout c := by
    rw [phi_last m c, scopedRest0_eq]; unfold phi1 scrAny
    iintro ⟨⟨Hb, Hs⟩, Hr⟩
    isplitl [Hb]; · iexact Hb
    isplitl [Hs] <;> iassumption
  hexit c := by
    iintro ⟨Ha, HO, HY, HZ⟩
    imodintro
    isplitr [HO]
    · isplitr [HY]
      · isplitl [Ha] <;> iassumption
      iexact HY
    · iapply (owesAt_elim m c (Fin.last cfg0.N) 0 (owed_last m c)); iexact HO

abbrev segs : List (Pipeline.Seg (pcfgs (F := F)) adm (dats m) () defs₀ 𝒱₀ L lv) := [.host (seg0 m), .region (reg0 m)]

end Cert.KernelIdeal.Hand

end
-- ==== Proof.Run.lean ====
/-
  The whole run: the launch deals the transfers' cells, tokens and credit to the devices; `run_main` says what every run
  ends with, for any float values.
-/
module

public import proofs.«01_k».proof.Proof.Launch

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf ucRefs unscopedBufs_held sub_ucRefs)

variable {F : FTy → Type} [FloatOps F]

local notation "𝕄" => MT nD τ sig Unit (Elt F) ℕ UU ℕ

variable (m : (ℓ : Loc nD τ sig) → Buf (Elt F) ℓ) (ρ : Dev nD → PrngReg)

/-! ## What the launch deals -/

/-- One device holds `R`, the others nothing. -/
def onDev (d : Dev nD) (R : sProp 𝕄) (c : Dev nD) : sProp 𝕄 := if c = d then R else iprop(emp)

theorem all_onDev (d : Dev nD) (R : sProp 𝕄) : bigSep Finset.univ (onDev d R) = R := by
  have h (c : Dev nD) (hc : c ∈ Finset.univ.erase d) : onDev d R c = (BI.emp : sProp 𝕄) := if_neg (Finset.ne_of_mem_erase hc)
  rw [bigSep_univ_at _ d, bigSep_congr h, BI.bigSep_emp_const, show onDev d R d = R from if_pos rfl]
  exact BI.equiv_iff.mp sep_emp

/-- The ghost element of the launch: the pipeline's part, and the transfers'. -/
def u₀ : UU :=
  (initOf (Pipeline.cells (Pipeline.pin (pcfgs (F := F)) adm) cellOf_inj) (Pipeline.launchToks (Pipeline.pin (pcfgs (F := F)) adm) cellOf_inj),
    launchOf barSet ownSet tokSet)

/-- The transfers' part, until it is dealt. -/
def Gh : Dev nD → sProp 𝕄 := onDev 0 (BI.own (ER (launchOf barSet ownSet tokSet)))

/-- The invariants of all cells, and that each barrier cell is at its first round. -/
def records (K : GSem nD τ sig → ℕ) : sProp 𝕄 :=
  iprop((bigSep (barSet ∪ ownSet) fun g => cellInv ER (kRd (Xs m)) (K g) g) ∗ bigSep barSet fun g => reached ER g 0)
instance records_persistent (K : GSem nD τ sig → ℕ) : BI.Persistent (records m K) := by unfold records; infer_instance

theorem mem_bar (c : Dev nD) : barCell c ∈ (barSet ∪ ownSet : Finset (GSem nD τ sig)) :=
  Finset.mem_union_left _ (Finset.mem_map_of_mem barAt (Finset.mem_univ c))
theorem mem_own (c : Dev nD) (k : Fin 42 ⊕ Fin 42) : ((c : Thread nD τ), osem k) ∈ (barSet ∪ ownSet : Finset (GSem nD τ sig)) :=
  Finset.mem_union_right _ (Finset.mem_map_of_mem ownAt (Finset.mem_univ (c, k)))

theorem inv_of (K : GSem nD τ sig → ℕ) {g : GSem nD τ sig} (h : g ∈ (barSet ∪ ownSet : Finset (GSem nD τ sig))) :
    records m K ⊢ cellInv ER (kRd (Xs m)) (K g) g := by
  unfold records
  iintro ⟨#H, -⟩
  iapply (show (bigSep (barSet ∪ ownSet) fun g => (cellInv ER (kRd (Xs m)) (K g) g : sProp 𝕄)) ⊢ cellInv ER (kRd (Xs m)) (K g) g from bigSep_elim h)
  iexact H
theorem reached_of (K : GSem nD τ sig → ℕ) (c : Dev nD) : records m K ⊢ reached ER (barCell c) 0 := by
  unfold records
  iintro ⟨-, #H⟩
  iapply (show (bigSep barSet fun g => (reached ER g 0 : sProp 𝕄)) ⊢ reached ER (barCell c) 0 from
    bigSep_elim (Finset.mem_map_of_mem barAt (Finset.mem_univ c)))
  iexact H

theorem inv1_of (K : GSem nD τ sig → ℕ) (c : Dev nD) (t : Fin 42) : records m K ⊢ inv1 (Xs m) K c t := by
  unfold inv1
  iintro #H
  isplitr; · iapply (inv_of m K (mem_own c (.inl t))); iexact H
  isplitr; · iapply (inv_of m K (mem_own c (.inr t))); iexact H
  iapply (inv_of m K (mem_own (pr (tAx t) c) (.inr t))); iexact H
theorem barRec_of (K : GSem nD τ sig → ℕ) (c : Dev nD) (a : Fin 3) : records m K ⊢ barRec (Xs m) K c a := by
  unfold barRec
  iintro #H
  isplitr; · iapply (inv_of m K (mem_bar (pr a.val c))); iexact H
  iapply (reached_of m K (pr a.val c)); iexact H

theorem recs0_of (K : GSem nD τ sig → ℕ) (c : Dev nD) : records m K ⊢ recs0 (Xs m) K c := by
  have h1 : records m K ⊢ bigSep Finset.univ fun t : Fin 42 => inv1 (Xs m) K c t := bigSep_intro_persistent fun t _ => inv1_of m K c t
  have h2 : records m K ⊢ bigSep Finset.univ fun a : Fin 3 => barRec (Xs m) K c a := bigSep_intro_persistent fun a _ => barRec_of m K c a
  unfold recs0
  iintro #H
  isplitr; · iapply h1; iexact H
  isplitr; · iapply h2; iexact H
  iapply (inv_of m K (mem_bar c)); iexact H

/-- What a device is dealt of the cells: its barrier position, the rights to open its own cells, the tokens it pays with. -/
def dealt (c : Dev nD) : sProp 𝕄 :=
  iprop(atPos ER (barCell c) 0 ∅ 0
    ∗ ((bigSep Finset.univ fun t : Fin 42 => openTok ER (sendCell t c)) ∗ bigSep Finset.univ fun t : Fin 42 => openTok ER (recvCell t c))
    ∗ (((bigSep Finset.univ fun t : Fin 42 => dutyTok ER (sendCell t c) 0 (0 : Fin 3))
        ∗ bigSep Finset.univ fun t : Fin 42 => dutyTok ER (recvCell t (pr (tAx t) c)) 0 (0 : Fin 3))
      ∗ bigSep Finset.univ fun a : Fin 3 => barTok c a))

/-- What a device has of its own from the launch. -/
def given (c : Dev nD) : sProp 𝕄 :=
  iprop(StableHlo.held (c : Thread nD τ) (ucRefs τ sig) (V₀ m c)
    ∗ (cred (tallyAt (barCell c) () 3) ∗ bigSep Finset.univ fun t : Fin 42 => cred (tallyAt (recvCell t c) () (NT t)))
    ∗ owes (c : Thread nD τ) (O₀ c) ∅)

theorem dorm_all (c : Dev nD) : (bigSep Finset.univ fun t => (dorm c t : sProp 𝕄))
    = iprop(((bigSep Finset.univ fun t : Fin 42 => openTok ER (sendCell t c)) ∗ bigSep Finset.univ fun t : Fin 42 => openTok ER (recvCell t c))
      ∗ ((bigSep Finset.univ fun t : Fin 42 => dutyTok ER (sendCell t c) 0 (0 : Fin 3))
        ∗ bigSep Finset.univ fun t : Fin 42 => dutyTok ER (recvCell t (pr (tAx t) c)) 0 (0 : Fin 3))
      ∗ bigSep Finset.univ fun t : Fin 42 => cred (tallyAt (recvCell t c) () (NT t))) := by
  unfold dorm
  rw [bigSep_sep', bigSep_sep', bigSep_sep', bigSep_sep']

/-- What each device starts the program with. -/
abbrev First (c : Dev nD) : sProp 𝕄 := iprop(StableHlo.held (c : Thread nD τ) (ucRefs τ sig) (V₀ m c) ∗ Ride m c)

theorem first_of (K : GSem nD τ sig → ℕ) (c : Dev nD) : iprop(records m K ∗ (dealt c ∗ given m c)) ⊢ First m c := by
  unfold dealt given First Ride Before
  iintro ⟨#HR, ⟨Hb, Ho, Hd, HT⟩, Hh, ⟨Hc, Hcr⟩, HO⟩
  isplitl [Hh]; · iexact Hh
  isplitr [HO]
  · iexists K
    isplitr; · iapply (recs0_of m K c); iexact HR
    isplitl [Hb]; · iexact Hb
    isplitl [Hc]; · iexact Hc
    isplitl [HT]; · iexact HT
    iapply (Entails.of_eq (dorm_all c).symm)
    isplitl [Ho]; · iexact Ho
    isplitl [Hd] <;> iassumption
  · iexists ∅; iexact HO

theorem unscoped_one : (Finset.univ.filter fun sm : SemLoc sig => ¬ sm.isScoped .tc) = {SemLoc.reg barS} := by decide
theorem bar_zero (c : Dev nD) : (unscopedSems0 c : sProp 𝕄) = semVal (barCell c) 0 := by
  unfold unscopedSems0
  rw [unscoped_one, BI.bigSep_singleton]

/-- What the launch gives one device, sorted. -/
theorem sorted (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ Gh c)
      ⊢ (iprop(given m c ∗ (semVal (barCell c) 0 ∗ Gh c)) : sProp 𝕄) := by
  rw [show unscopedBufs c (fun b => m ((c : Thread nD τ).loc b)) = StableHlo.held (c : Thread nD τ) (ucRefs τ sig) (V₀ m c) from
    unscopedBufs_held c (V₀ m c), bar_zero]
  unfold given
  iintro ⟨Hh, Hv, HO, Hcr, -, HG⟩
  ihave Hcr := (creds (F := F) c) $$ Hcr
  isplitl [Hh Hcr HO]
  · isplitl [Hh]; · iexact Hh
    isplitl [Hcr] <;> iassumption
  isplitl [Hv] <;> iassumption

theorem vals_in : bigSep Finset.univ (fun c : Dev nD => (semVal (barCell c) 0 : sProp 𝕄)) ⊢ bigSep barSet (fun g => (semVal g 0 : sProp 𝕄)) :=
  Entails.of_eq (bigSep_map (s := Finset.univ) barAt (Φ := fun g : GSem nD τ sig => (semVal g 0 : sProp 𝕄))).symm
theorem pos_out : bigSep barSet (fun g => (atPos ER g 0 ∅ 0 : sProp 𝕄)) ⊢ bigSep Finset.univ (fun c : Dev nD => (atPos ER (barCell c) 0 ∅ 0 : sProp 𝕄)) :=
  Entails.of_eq (bigSep_map (s := Finset.univ) barAt (Φ := fun g : GSem nD τ sig => (atPos ER g 0 ∅ 0 : sProp 𝕄)))
theorem open_out : bigSep ownSet (fun g => (openTok ER g : sProp 𝕄)) ⊢ bigSep Finset.univ (fun c : Dev nD =>
    (iprop((bigSep Finset.univ fun t : Fin 42 => openTok ER (sendCell t c)) ∗ bigSep Finset.univ fun t : Fin 42 => openTok ER (recvCell t c)) : sProp 𝕄)) := by
  refine Entails.of_eq ?_
  rw [bigSep_map, bigSep_univ_prod]
  exact bigSep_congr fun c _ => bigSep_univ_sum (fun k => (openTok ER ((c : Thread nD τ), osem k) : sProp 𝕄))

/-- The launch deals everything. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ Gh c)) ∗ levAts L lv)
      ⊢ (|={Set.univ}=> bigSep Finset.univ (First m) : sProp 𝕄) := by
  have hsort : (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ Gh c))
      ⊢ (bigSep Finset.univ fun c : Dev nD => iprop(given m c ∗ (semVal (barCell c) 0 ∗ Gh c)) : sProp 𝕄) := bigSep_mono fun c _ => sorted m ρ c
  iintro ⟨H, -⟩
  ihave H := hsort $$ H
  ihave H := (Entails.of_eq (bigSep_sep' Finset.univ _ _)) $$ H
  icases H with ⟨HB, H⟩
  ihave H := (Entails.of_eq (bigSep_sep' Finset.univ _ _)) $$ H
  icases H with ⟨Hv, HG⟩
  ihave Hu := (show bigSep Finset.univ (Gh (F := F)) ⊢ BI.own (ER (launchOf barSet ownSet tokSet)) from Entails.of_eq (all_onDev (F := F) 0 _)) $$ HG
  imod (Rounds.fund_launch ER (kRd (Xs m)) sets_disjoint (fun g _ h => h) tokSet) $$ [Hv Hu] with ⟨%K, -, #Hinv, #Hr, Hat, Hopen, Htok⟩
  · isplitl [Hv]
    · iapply (vals_in (F := F)); iexact Hv
    · iexact Hu
  imodintro
  iapply (bigSep_with_persistent (R := records m K) (Φ := fun c => iprop(dealt c ∗ given m c)) fun c _ => first_of m K c)
  isplitr
  · unfold records
    isplitr; · iexact Hinv
    iexact Hr
  iapply (Entails.of_eq (bigSep_sep' Finset.univ _ _).symm)
  isplitr [HB]
  · unfold dealt
    iapply (Entails.of_eq (bigSep_sep' Finset.univ _ _).symm); isplitl [Hat]; · iapply (pos_out (F := F)); iexact Hat
    iapply (Entails.of_eq (bigSep_sep' Finset.univ _ _).symm); isplitl [Hopen]; · iapply (open_out (F := F)); iexact Hopen
    iapply (tok_deal (F := F)); iexact Htok
  · iexact HB

/-! ## What the run leaves -/

theorem out_eq (c : Dev nD) : (dats m 0 c).arrAt 1 cfg0.N = outC (Xs m) := by
  refine Dat.arrAt_eq_of_cover (dats m 0 c) 1 (outC (Xs m)) (fun t _ => ?_) (fun i => ⟨t0_0, flush0_1 _, ?_⟩)
  · obtain rfl := fin_N0 t
    exact (read1 (outC (Xs m))).symm
  · have h := View.emb_mem_set (win0_1.blk t0_0).view i
    rw [blk1_emb] at h
    exact h

theorem sem_one : ∀ sm : SemLoc sig, sm.isScoped .tc = false → sm = .reg barS := by decide

set_option backward.isDefEq.respectTransparency.types false in
/-- Every run ends, with each device's argument as it was, its result the sum, and every counter at zero. -/
theorem run_main : θ_run defs (onTc (τ := τ) (main (F := F))) (s₀ m ρ)
    (fun r => (∀ c : Dev nD, r.2.mem ((c : Thread nD τ).loc main_arg0) = m ((c : Thread nD τ).loc main_arg0)
        ∧ r.2.mem ((c : Thread nD τ).loc main_v2) = outC (Xs m)) ∧ r.2.sem = fun _ => 0) :=
  Pipeline.θ_run_regions_kit_sems (pcfgs (F := F)) adm (dats m) () cellOf_inj EP defs₀ 𝒱₀ L lv m ρ main (segs m)
    (fun c Q => by rw [main_segs adm (dats m) () 𝒱₀ L lv (seg0 m) (reg0 m) rfl c])
    (by simp only [Pipeline.Seg.pipes_host, Pipeline.Seg.pipes_region, Pipeline.Seg.pipes_nil]; decide)
    (O₀ := O₀) (hL := L_of_ne) (G := Gh) (u₀ := u₀ (F := F))
    (hu₀ := by
      unfold u₀ Gh
      iintro Hu
      ihave H := (ownU_pair _ _) $$ Hu
      icases H with ⟨HP, HX⟩
      imodintro
      isplitl [HP]; · iexact HP
      rw [all_onDev]; iexact HX)
    (T₀ := First m) (Tₙ := Last m)
    (hch := ⟨fun _ => .rfl, fun _ => .rfl, fun _ => .rfl⟩)
    (hinit := init m ρ)
    (QY := fun c s => ((∀ w : Fin cfg0.W, s.mem ((cfg0.win w).arr.view.loc (c : Thread nD τ)) = (dats m 0 c).arrAt w cfg0.N)
      ∧ s.mem ((c : Thread nD τ).loc main_arg0) = m ((c : Thread nD τ).loc main_arg0)) ∧ s.sem (barCell c) = 0)
    (hfin := fun c s' => by
      dsimp only [Last]; rw [V_main_arg0]
      iintro ⟨⟨⟨Ha, H1⟩, Hb⟩, HSI⟩
      icombine HSI H1 gives %h
      icombine HSI Hb gives %hb
      ihave Hr := (Pipeline.arrays_read (pcfgs (F := F)) adm (dats m) launch0.arr_whole c ((dats m 0 c).share_full fun _ => rfl) _ s') $$ [Ha HSI]
      · isplitl [Ha] <;> iassumption
      icases Hr with ⟨%ha, HSI⟩
      imodintro
      isplitr
      · ipureintro
        exact ⟨⟨ha, Buf.eq_of_forall_mem_univ h⟩, by simpa using hb⟩
      iexact HSI)
    (hQ := fun s h hs => ⟨fun c => ⟨(h c).1.2, ((h c).1.1 1).trans (out_eq m c)⟩,
      sem_eq_zero hs fun c sm hsm => by
        obtain rfl := sem_one sm hsm
        exact (h c).2⟩)

end Cert.KernelIdeal.Hand

end
-- ==== Proof.Value.lean ====
/-
  What the run computes, over the ideal values: the kernel's tree of sums is the sum over the eight devices, and so is the
  reference's reduction of the whole array.
-/
module

public import proofs.«01_k».proof.Proof.Run
public import proofs.«01_k».proof.Proof.Gen.ReferenceIdeal.Run
public import proofs.«01_k».proof.Defs
public import Idealize.ShloMosaic.Lib.Pointwise.Reduce
public import Idealize.ShloMosaic.Lib.Pointwise.Reshape
public import Idealize.ShloMosaic.Lib.Layout

@[expose] public section

noncomputable section

namespace Cert.KernelIdeal.Hand

open Cert.KernelIdeal Cert.KernelIdeal.Gen
open Idealize.ShloMosaic Idealize.ShloMosaic.TcCoe
open Idealize.SL.Sem

/-! ## The kernel's sum -/

section Kernel

variable (X : Dev nD → S2048x1024.Idx → Ideal .f32)

theorem fl_inj : ∀ p < 3, ∀ d : Dev nD, ∀ i j : Fin 8, fl p i.val d = fl p j.val d → i = j := by decide +kernel
theorem fl_fl : ∀ p < 3, ∀ j < 8, ∀ d : Dev nD, fl p j (fl p j d) = d := by decide +kernel

/-- A sum over the devices, by the axes to flip from one of them. -/
theorem sum_fl (p : ℕ) (hp : p < 3) (d : Dev nD) (g : Dev nD → EReal) : ∑ c, g c = ∑ j : Fin 8, g (fl p j.val d) := by
  have hb : Function.Bijective fun j : Fin 8 => (fl p j.val d : Fin 8) :=
    Finite.injective_iff_bijective.mp fun i j h => fl_inj p hp d i j h
  exact ((Equiv.ofBijective _ hb).sum_comp g).symm

theorem xb_fl (p : ℕ) (hp : p < 3) (j : ℕ) (hj : j < 8) (d : Dev nD) (r k : ℕ) :
    xb X p j (fl p j d) r k = X (fl p j d) (ix2 (704 * p + rowsP p * blkOf p d + r) k) := by
  unfold xb rho
  rw [fl_fl p hp j hj d]

theorem pr_comm (a b : ℕ) (d : Dev nD) : pr a (pr b d) = pr b (pr a d) := by
  rw [← pr_mod a, ← pr_mod b, ← pr_mod a d, ← pr_mod b (pr (a % 3) d)]
  have ha : a % 3 < 3 := Nat.mod_lt _ (by decide)
  have hb : b % 3 < 3 := Nat.mod_lt _ (by decide)
  generalize a % 3 = a at ha
  generalize b % 3 = b at hb
  revert a b d; decide

/-- The reduced block is the sum over the devices. -/
theorem w7_sum (p : ℕ) (hp : p < 3) (d : Dev nD) (r k : ℕ) :
    w7 X p d r k = ∑ c, X c (ix2 (704 * p + rowsP p * blkOf p d + r) k) := by
  have e7 : d = fl p 7 d := rfl
  have e3 : pr p d = fl p 3 d := rfl
  have e5 : pr (p + 1) d = fl p 5 d := rfl
  have e6 : pr (p + 2) d = fl p 6 d := rfl
  have e1 : pr p (pr (p + 1) d) = fl p 1 d := pr_comm _ _ _
  have e2 : pr p (pr (p + 2) d) = fl p 2 d := pr_comm _ _ _
  have e4 : pr (p + 1) (pr (p + 2) d) = fl p 4 d := pr_comm _ _ _
  have e0 : pr p (pr (p + 1) (pr (p + 2) d)) = fl p 0 d := by
    rw [pr_comm (p + 1), pr_comm p, pr_comm p]; rfl
  have h : w7 X p d r k = ((xb X p 7 d r k + xb X p 3 (pr p d) r k) + (xb X p 5 (pr (p + 1) d) r k + xb X p 1 (pr p (pr (p + 1) d)) r k))
      + ((xb X p 6 (pr (p + 2) d) r k + xb X p 2 (pr p (pr (p + 2) d)) r k)
        + (xb X p 4 (pr (p + 1) (pr (p + 2) d)) r k + xb X p 0 (pr p (pr (p + 1) (pr (p + 2) d))) r k)) := rfl
  rw [h, e0, e1, e2, e4, e3, e5, e6, xb_fl X p hp 0 (by omega), xb_fl X p hp 1 (by omega), xb_fl X p hp 2 (by omega), xb_fl X p hp 3 (by omega),
    xb_fl X p hp 4 (by omega), xb_fl X p hp 5 (by omega), xb_fl X p hp 6 (by omega), sum_fl p hp d, Fin.sum_univ_eight]
  have h7 := xb_fl X p hp 7 (by omega) d r k
  rw [← e7] at h7
  rw [h7]
  show _ = X (fl p 0 d) _ + X (fl p 1 d) _ + X (fl p 2 d) _ + X (fl p 3 d) _ + X (fl p 4 d) _ + X (fl p 5 d) _ + X (fl p 6 d) _ + X d _
  generalize 704 * p + rowsP p * blkOf p d + r = q
  generalize X (fl p 0 d) (ix2 q k) = x0
  generalize X (fl p 1 d) (ix2 q k) = x1
  generalize X (fl p 2 d) (ix2 q k) = x2
  generalize X (fl p 3 d) (ix2 q k) = x3
  generalize X (fl p 4 d) (ix2 q k) = x4
  generalize X (fl p 5 d) (ix2 q k) = x5
  generalize X (fl p 6 d) (ix2 q k) = x6
  generalize X d (ix2 q k) = x7
  change ((x7 + x3) + (x5 + x1)) + ((x6 + x2) + (x4 + x0)) = (((((((x0 + x1 : EReal) + x2) + x3) + x4) + x5) + x6) + x7 : EReal)
  ac_rfl

theorem ix2_self (i : S2048x1024.Idx) : ix2 (i 0).val (i 1).val = i := by
  have h0 : (i 0).val < 2048 := (i 0).isLt
  have h1 : (i 1).val < 1024 := (i 1).isLt
  funext a
  match a with
  | ⟨0, _⟩ => exact Fin.ext (Nat.mod_eq_of_lt h0)
  | ⟨1, _⟩ => exact Fin.ext (Nat.mod_eq_of_lt h1)

/-- The kernel's result is the sum of the devices' arrays. -/
theorem out_sum (i : S2048x1024.Idx) : outC X i = ∑ c, X c i := by
  obtain ⟨p, hp, b, hb, h1, h2⟩ := row_block (i 0).val (i 0).isLt
  have hd := blk_owner p hp b hb
  have hr : (i 0).val = 704 * p + rowsP p * blkOf p (owner p b) + ((i 0).val - (704 * p + rowsP p * b)) := by rw [hd]; omega
  have hq : outV X (i 0).val (i 1).val = up (w7 X p (owner p b) ((i 0).val - (704 * p + rowsP p * b)) (i 1).val) := by
    rw [← outV_block X p hp (owner p b) _ _ (by omega), ← hr]
  have hw := w7_sum X p hp (owner p b) ((i 0).val - (704 * p + rowsP p * b)) (i 1).val
  rw [← hr, ix2_self] at hw
  exact hq.trans hw

end Kernel

/-! ## The reference's sum -/

/-- Where entry `j` of device `c`'s part is in the whole array. -/
def wholeIx (c : Fin 8) (j : S2048x1024.Idx) : Cert.ReferenceIdeal.S2x2x2x2048x1024.Idx := fun
  | ⟨0, _⟩ => (⟨c.val / 4 % 2, Nat.mod_lt _ (by decide)⟩ : Fin 2)
  | ⟨1, _⟩ => (⟨c.val / 2 % 2, Nat.mod_lt _ (by decide)⟩ : Fin 2)
  | ⟨2, _⟩ => (⟨c.val % 2, Nat.mod_lt _ (by decide)⟩ : Fin 2)
  | ⟨3, _⟩ => j 0
  | ⟨4, _⟩ => j 1

theorem wholeIx_inj (j : S2048x1024.Idx) : Function.Injective fun c => wholeIx c j := by
  intro c d h
  have h0 : c.val / 4 % 2 = d.val / 4 % 2 := congrArg Fin.val (congrFun h 0)
  have h1 : c.val / 2 % 2 = d.val / 2 % 2 := congrArg Fin.val (congrFun h 1)
  have h2 : c.val % 2 = d.val % 2 := congrArg Fin.val (congrFun h 2)
  have := c.isLt; have := d.isLt
  exact Fin.ext (by omega)

/-- The entries the reference adds into entry `j`: one of each device's part. -/
theorem drop_iff (j : S2048x1024.Idx) (i : Cert.ReferenceIdeal.S2x2x2x2048x1024.Idx)
    (h : Cert.ReferenceIdeal.S2x2x2x2048x1024.ReducesTo [0, 1, 2] Cert.ReferenceIdeal.S2048x1024) :
    h.drop i = j ↔ ∃ c, wholeIx c j = i := by
  have d0 : (h.drop i 0 : ℕ) = i 3 := h.drop_apply_val_of_eq i 0 3
  have d1 : (h.drop i 1 : ℕ) = i 4 := h.drop_apply_val_of_eq i 1 4
  have b0 : (i 0).val < 2 := (i 0).isLt
  have b1 : (i 1).val < 2 := (i 1).isLt
  have b2 : (i 2).val < 2 := (i 2).isLt
  constructor
  · rintro rfl
    refine ⟨⟨4 * (i 0).val + 2 * (i 1).val + (i 2).val, by omega⟩, funext fun a => Fin.ext ?_⟩
    match a with
    | ⟨0, _⟩ => show (4 * (i 0).val + 2 * (i 1).val + (i 2).val) / 4 % 2 = (i 0).val; omega
    | ⟨1, _⟩ => show (4 * (i 0).val + 2 * (i 1).val + (i 2).val) / 2 % 2 = (i 1).val; omega
    | ⟨2, _⟩ => show (4 * (i 0).val + 2 * (i 1).val + (i 2).val) % 2 = (i 2).val; omega
    | ⟨3, _⟩ => exact d0
    | ⟨4, _⟩ => exact d1
  · rintro ⟨c, rfl⟩
    funext a
    match a with
    | ⟨0, _⟩ => exact Fin.ext d0
    | ⟨1, _⟩ => exact Fin.ext d1

/-- The reference's reduction is the sum over the devices' parts. -/
theorem ref_sum (x : Cert.ReferenceIdeal.S2x2x2x2048x1024.Idx → Ideal .f32) (h hu) (j : S2048x1024.Idx) :
    Host.reduceAdd (F := Ideal) (axes := [0, 1, 2]) (t := Cert.ReferenceIdeal.S2048x1024) x (constant Cert.ReferenceIdeal.S_ .f32 0x00000000#32) h hu j
      = ∑ c : Fin 8, x (wholeIx c j) := by
  show Ideal.hostReduceAdd h x _ j = _
  unfold Ideal.hostReduceAdd
  rw [show (constant (F := Ideal) Cert.ReferenceIdeal.S_ .f32 0x00000000#32) (Shape.Idx.first hu) = (0 : EReal) from Ideal.ofBits_zero_f32, zero_add]
  exact Finset.sum_filter_eq_sum_of_fiber _ (fun c => wholeIx c j) (wholeIx_inj j) (fun i => drop_iff j i h) x

/-! ## The devices' parts -/

section Parts

variable (m : (ℓ : Loc nD τ sig) → Buf (Elt Ideal) ℓ)

/-- An index of a device's array as one of its argument. -/
def partIx (j : S2048x1024.Idx) : S1x1x1x2048x1024.Idx := fun
  | ⟨0, _⟩ => (0 : Fin 1)
  | ⟨1, _⟩ => (0 : Fin 1)
  | ⟨2, _⟩ => (0 : Fin 1)
  | ⟨3, _⟩ => j 0
  | ⟨4, _⟩ => j 1

theorem xs_eq (c : Dev nD) : Xs m c = shapeCast S2048x1024 (m ((c : Thread nD τ).loc main_arg0)) shapeCasts_S1x1x1x2048x1024_S2048x1024 := by
  unfold Xs V
  after_results
  rfl

theorem xs_at (c : Dev nD) (j : S2048x1024.Idx) : Xs m c j = m ((c : Thread nD τ).loc main_arg0) (partIx j) := by
  rw [xs_eq]
  refine shapeCast_apply _ _ j (partIx j) ?_
  rw [rowMajor_val5 (partIx j) (1 * 1 * 2048 * 1024) (1 * 2048 * 1024) (2048 * 1024) 1024 rfl rfl rfl rfl, rowMajor_val2 j 1024 rfl]
  show 0 * _ + 0 * _ + 0 * _ + (j 0).val * 1024 + (j 1).val = (j 0).val * 1024 + (j 1).val
  omega

end Parts

/-! ## The claim -/

/-- Where device `c`'s block of the whole array is. -/
theorem block_at (c : Fin 8) (j : S2048x1024.Idx) (v : Cert.ReferenceIdeal.S2x2x2x2048x1024.Idx → Ideal .f32) (h hT) :
    Layout.blockN ⟨5, ![1, 1, 1, 2048, 1024]⟩ ⟨5, ![2, 2, 2, 2048, 1024]⟩ (Layout.meshBlock [2, 2, 2] ![[0], [1], [2], [], []] c h) v hT (partIx j)
      = v (wholeIx c j) := by
  refine congrArg v (funext fun a => Fin.ext ?_)
  have hc := c.isLt
  rw [Layout.TilesN.idx_val]
  match a with
  | ⟨0, _⟩ => show (c.val / 4 % 2 * 1 + 0) * 1 + 0 = c.val / 4 % 2; omega
  | ⟨1, _⟩ => show (c.val / 2 % 2 * 1 + 0) * 1 + 0 = c.val / 2 % 2; omega
  | ⟨2, _⟩ => show (c.val / 1 % 2 * 1 + 0) * 1 + 0 = c.val % 2; omega
  | ⟨3, _⟩ => show 0 * 2048 + (j 0).val = (j 0).val; omega
  | ⟨4, _⟩ => show 0 * 1024 + (j 1).val = (j 1).val; omega

theorem algebraic : Cert.algebraic_KernelIdeal_ReferenceIdeal := by
  intro m g m' g' _ hm
  refine ⟨_, ?_, (θ_run Cert.ReferenceIdeal.defs _ _).mono (fun _ h => h 0) (Cert.ReferenceIdeal.Value.run (F := Ideal) m' g')⟩
  refine (θ_run Cert.KernelIdeal.defs _ _).mono (fun r h c => ⟨?_, (h.1 c).1⟩) (run_main (F := Ideal) m g)
  refine (h.1 c).2.trans (funext fun j => ?_)
  refine (out_sum (Xs m) j).trans (Eq.symm ((ref_sum _ _ _ j).trans ?_))
  refine Finset.sum_congr rfl fun d _ => ?_
  rw [xs_at, hm d]
  exact (block_at d j _ _ _).symm

end Cert.KernelIdeal.Hand

end
-- ==== Proof.lean ====
/-
  The claims: the kernel runs to its end with its argument unchanged and every semaphore at zero, at the machine's floats
  and at the ideal ones; so does the reference; and over the ideal floats every device's result is the reference's.
  `run_main` of Proof/Run.lean is the kernel's run at any floats; Proof/Value.lean reads off what it computes.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem Cert.Kernel

/-- The two programs' body tables are one: the idealization rewrote nothing. -/
theorem bodies_eq : Cert.KernelIdeal.defs₀ (F := Bits) = Cert.Kernel.defs₀ (F := Bits) := by
  unfold Cert.KernelIdeal.defs₀ Cert.Kernel.defs₀
  congr 1
  funext l a
  match l, a with
  | ⟨0, _⟩, (t, s) => rfl
  | ⟨n + 1, h⟩, _ => exact absurd h (Nat.not_lt.2 (Nat.le_add_left _ _))
theorem defs_eq : Cert.KernelIdeal.defs (F := Bits) = Cert.Kernel.defs (F := Bits) :=
  congrArg (Pipeline.defs Cert.Kernel.pcfgs) bodies_eq

theorem frame_kernel : Cert.quiescent_Kernel := fun m ρ _ => by
  rw [← defs_eq]
  exact (θ_run Cert.KernelIdeal.defs _ _).mono (fun _ h => ⟨fun c => (h.1 c).1, h.2⟩) (Cert.KernelIdeal.Hand.run_main (F := Bits) m ρ)

theorem frame_ideal : Cert.quiescent_KernelIdeal := fun m ρ _ =>
  (θ_run Cert.KernelIdeal.defs _ _).mono (fun _ h => ⟨fun c => (h.1 c).1, h.2⟩) (Cert.KernelIdeal.Hand.run_main (F := Ideal) m ρ)

theorem no_sem : ∀ s : SemLoc Cert.ReferenceIdeal.sig, False := by decide

theorem frame_reference : Cert.quiescent_ReferenceIdeal := fun m ρ _ =>
  (θ_run Cert.ReferenceIdeal.defs _ _).mono (fun _ h => ⟨fun c => (h c).2, funext fun g => (no_sem g.2).elim⟩)
    (Cert.ReferenceIdeal.Value.run (F := Ideal) m ρ)

theorem claim : Cert.Claim := ⟨Cert.Kernel.Gen.facts, Cert.KernelIdeal.Gen.facts, Cert.ReferenceIdeal.Gen.facts,
  frame_kernel, frame_ideal, frame_reference, trivial, Cert.KernelIdeal.Hand.algebraic⟩

end Cert.Proof

end
